-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_representable [hPre_scales_representable : Cert.Pre_scales_representable.Facts] (m : (ℓ : Loc Cert.KernelIdeal.nD Cert.KernelIdeal.τ Cert.KernelIdeal.sig) → Buf (Elt Ideal) ℓ) : Prop :=
  ∀ c : Dev Cert.KernelIdeal.nD,
    (Cert.Pre_scales_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_representable [hPre_scales_representable : Cert.Pre_scales_representable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_representable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_representable [hKernelIdeal : Cert.KernelIdeal.Facts] [hPre_scales_representable : Cert.Pre_scales_representable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_representable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_representable [hReferenceIdeal : Cert.ReferenceIdeal.Facts] [hPre_scales_representable : Cert.Pre_scales_representable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_representable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "inv_q" .f32 0x3A2AAAAB#32 ((1 / 1536 : ℝ) : EReal)

def algebraic_KernelIdeal_ReferenceIdeal_pre_scales_representable [hKernelIdeal : Cert.KernelIdeal.Facts] [hReferenceIdeal : Cert.ReferenceIdeal.Facts] [hPre_scales_representable : Cert.Pre_scales_representable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_representable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38_0) = v0 c
          ∧ r.2.mem ((c.tc : Thread Cert.ReferenceIdeal.nD Cert.ReferenceIdeal.τ).loc Cert.ReferenceIdeal.main_v38_1) = v1 c
          ∧ r.2.mem ((c.tc : Thread Cert.ReferenceIdeal.nD Cert.ReferenceIdeal.τ).loc Cert.ReferenceIdeal.main_v38_2) = v2 c
          ∧ r.2.mem ((c.tc : Thread Cert.ReferenceIdeal.nD Cert.ReferenceIdeal.τ).loc Cert.ReferenceIdeal.main_v38_3) = v3 c
          ∧ r.2.mem ((c.tc : Thread Cert.ReferenceIdeal.nD Cert.ReferenceIdeal.τ).loc Cert.ReferenceIdeal.main_v19) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scales_representable : Cert.Pre_scales_representable.Facts),
    quiescent_Kernel (hKernel := hKernel)
    ∧ quiescent_KernelIdeal (hKernelIdeal := hKernelIdeal)
    ∧ quiescent_KernelIdeal_pre_scales_representable (hKernelIdeal := hKernelIdeal) (hPre_scales_representable := hPre_scales_representable)
    ∧ quiescent_ReferenceIdeal (hReferenceIdeal := hReferenceIdeal)
    ∧ quiescent_ReferenceIdeal_pre_scales_representable (hReferenceIdeal := hReferenceIdeal) (hPre_scales_representable := hPre_scales_representable)
    ∧ preserves_Kernel_KernelIdeal
    ∧ algebraic_KernelIdeal_ReferenceIdeal_pre_scales_representable (hKernelIdeal := hKernelIdeal) (hReferenceIdeal := hReferenceIdeal) (hPre_scales_representable := hPre_scales_representable)
-- ==== Pre_scales_representable.lean ====
abbrev S1x6144x5120 : Shape := ⟨3, ![1, 6144, 5120]⟩
abbrev S2112x5120 : Shape := ⟨2, ![2112, 5120]⟩
abbrev S17x40 : Shape := ⟨2, ![17, 40]⟩
abbrev S1536 : Shape := ⟨1, ![1536]⟩
abbrev S512 : Shape := ⟨1, ![512]⟩
abbrev S6144x5120 : Shape := ⟨2, ![6144, 5120]⟩
abbrev S6144x40x128 : Shape := ⟨3, ![6144, 40, 128]⟩
abbrev S_ : Shape := ⟨0, ![]⟩
abbrev S6144x40 : Shape := ⟨2, ![6144, 40]⟩

class Facts : Prop where
  shapeCasts_S1x6144x5120_S6144x5120 : S1x6144x5120.ShapeCasts S6144x5120
  shapeCasts_S6144x5120_S6144x40x128 : S6144x5120.ShapeCasts S6144x40x128
  reducesTo_S6144x40x128_S6144x40_d2 : S6144x40x128.ReducesTo [2] S6144x40
  h_S_ : 0 < S_.numel
  bitsLt_bf16_f32 : FTy.bits .bf16 < FTy.bits .f32
  bcast_S_S6144x40 : S_.BroadcastsInDim S6144x40 (![] : Fin 0 → Fin S6144x40.rank)

variable [Facts]

def fn {F : FTy → Type} [FloatOps F] (main_arg0 : FVec F S1x6144x5120 .bf16) (main_arg1 : FVec F S2112x5120 .fp8e4m3) (main_arg2 : FVec F S17x40 .f32) (main_arg3 : FVec F S1536 .bf16) (main_arg4 : FVec F S512 .bf16) : IVec S6144x40 1 :=
  let main_v0 : FVec F S6144x5120 .bf16 := shapeCast S6144x5120 main_arg0 shapeCasts_S1x6144x5120_S6144x5120
  let main_v1 : FVec F S6144x5120 .bf16 := Host.absf main_v0
  let main_v2 : FVec F S6144x40x128 .bf16 := shapeCast S6144x40x128 main_v1 shapeCasts_S6144x5120_S6144x40x128
  let main_cst : FVec F S_ .bf16 := constant S_ .bf16 0xFF80#16
  let main_v3 : FVec F S6144x40 .bf16 := (fun x v => Host.reduce FloatOps.maximumf x v reducesTo_S6144x40x128_S6144x40_d2 h_S_) main_v2 main_cst
  let main_v4 : FVec F S6144x40 .f32 := (extf .f32 · bitsLt_bf16_f32) main_v3
  let main_cst_0 : FVec F S_ .f32 := constant S_ .f32 0x00000000#32
  let main_v5 : FVec F S6144x40 .f32 := broadcastInDim S6144x40 ![] bcast_S_S6144x40 main_cst_0
  let main_v6 : IVec S6144x40 1 := cmpf .oeq main_v4 main_v5
  let main_cst_1 : FVec F S_ .f32 := constant S_ .f32 0x04E00000#32
  let main_v7 : FVec F S6144x40 .f32 := broadcastInDim S6144x40 ![] bcast_S_S6144x40 main_cst_1
  let main_v8 : IVec S6144x40 1 := cmpf .oge main_v4 main_v7
  let main_cst_2 : FVec F S_ .f32 := constant S_ .f32 0x7F7F0000#32
  let main_v9 : FVec F S6144x40 .f32 := broadcastInDim S6144x40 ![] bcast_S_S6144x40 main_cst_2
  let main_v10 : IVec S6144x40 1 := cmpf .ole main_v4 main_v9
  let main_v11 : IVec S6144x40 1 := andi main_v8 main_v10
  let main_v12 : IVec S6144x40 1 := ori main_v6 main_v11
  main_v12
-- ==== Kernel.lean ====
abbrev S1x6144x5120 : Shape := ⟨3, ![1, 6144, 5120]⟩
abbrev S2112x5120 : Shape := ⟨2, ![2112, 5120]⟩
abbrev S17x40 : Shape := ⟨2, ![17, 40]⟩
abbrev S1536 : Shape := ⟨1, ![1536]⟩
abbrev S512 : Shape := ⟨1, ![512]⟩
abbrev S1x1536 : Shape := ⟨2, ![1, 1536]⟩
abbrev S1x512 : Shape := ⟨2, ![1, 512]⟩
abbrev S6144x5120 : Shape := ⟨2, ![6144, 5120]⟩
abbrev S6144x1536 : Shape := ⟨2, ![6144, 1536]⟩
abbrev S6144x512 : Shape := ⟨2, ![6144, 512]⟩
abbrev S6144x64 : Shape := ⟨2, ![6144, 64]⟩
abbrev S6144x40 : Shape := ⟨2, ![6144, 40]⟩
abbrev S384x5120 : Shape := ⟨2, ![384, 5120]⟩
abbrev S384x1536 : Shape := ⟨2, ![384, 1536]⟩
abbrev S384x512 : Shape := ⟨2, ![384, 512]⟩
abbrev S384x64 : Shape := ⟨2, ![384, 64]⟩
abbrev S384x40 : Shape := ⟨2, ![384, 40]⟩
abbrev S2x256x5120 : Shape := ⟨3, ![2, 256, 5120]⟩
abbrev S2x384x5120 : Shape := ⟨3, ![2, 384, 5120]⟩
abbrev S2 : Shape := ⟨1, ![2]⟩
abbrev S1 : Shape := ⟨1, ![1]⟩
abbrev S_ : Shape := ⟨0, ![]⟩
abbrev S1x256x5120 : Shape := ⟨3, ![1, 256, 5120]⟩
abbrev S256x5120 : Shape := ⟨2, ![256, 5120]⟩
abbrev S384x128 : Shape := ⟨2, ![384, 128]⟩
abbrev S384 : Shape := ⟨1, ![384]⟩
abbrev S384x1 : Shape := ⟨2, ![384, 1]⟩
abbrev S1x384x128 : Shape := ⟨3, ![1, 384, 128]⟩
abbrev S1x1 : Shape := ⟨2, ![1, 1]⟩
abbrev S128x128 : Shape := ⟨2, ![128, 128]⟩
abbrev S1x128x128 : Shape := ⟨3, ![1, 128, 128]⟩
abbrev S1x64x5120 : Shape := ⟨3, ![1, 64, 5120]⟩
abbrev S64x5120 : Shape := ⟨2, ![64, 5120]⟩
abbrev S64x128 : Shape := ⟨2, ![64, 128]⟩
abbrev S1x64x128 : Shape := ⟨3, ![1, 64, 128]⟩
abbrev S1x384x5120 : Shape := ⟨3, ![1, 384, 5120]⟩
abbrev S512x5120 : Shape := ⟨2, ![512, 5120]⟩

abbrev nBuf : Space → Nat
  | .hbm => 13
  | .vmem => 18
  | .smem => 1
  | _ => 0

abbrev bufTy : (tb : Table) → Fin (tcTables nBuf tb) → BufTy
  | .hbm, ⟨0, _⟩ => ⟨S1x6144x5120, .bf16⟩
  | .hbm, ⟨1, _⟩ => ⟨S2112x5120, .fp8e4m3⟩
  | .hbm, ⟨2, _⟩ => ⟨S17x40, .f32⟩
  | .hbm, ⟨3, _⟩ => ⟨S1536, .bf16⟩
  | .hbm, ⟨4, _⟩ => ⟨S512, .bf16⟩
  | .hbm, ⟨5, _⟩ => ⟨S1x1536, .bf16⟩
  | .hbm, ⟨6, _⟩ => ⟨S1x512, .bf16⟩
  | .hbm, ⟨7, _⟩ => ⟨S6144x5120, .bf16⟩
  | .hbm, ⟨8, _⟩ => ⟨S6144x1536, .bf16⟩
  | .hbm, ⟨9, _⟩ => ⟨S6144x512, .bf16⟩
  | .hbm, ⟨10, _⟩ => ⟨S6144x64, .bf16⟩
  | .hbm, ⟨11, _⟩ => ⟨S6144x5120, .fp8e4m3⟩
  | .hbm, ⟨12, _⟩ => ⟨S6144x40, .f32⟩
  | .local _ .vmem, ⟨0, _⟩ => ⟨S1x1536, .bf16⟩
  | .local _ .vmem, ⟨1, _⟩ => ⟨S1x512, .bf16⟩
  | .local _ .vmem, ⟨2, _⟩ => ⟨S384x5120, .bf16⟩
  | .local _ .vmem, ⟨3, _⟩ => ⟨S384x5120, .bf16⟩
  | .local _ .vmem, ⟨4, _⟩ => ⟨S384x1536, .bf16⟩
  | .local _ .vmem, ⟨5, _⟩ => ⟨S384x1536, .bf16⟩
  | .local _ .vmem, ⟨6, _⟩ => ⟨S384x512, .bf16⟩
  | .local _ .vmem, ⟨7, _⟩ => ⟨S384x512, .bf16⟩
  | .local _ .vmem, ⟨8, _⟩ => ⟨S384x64, .bf16⟩
  | .local _ .vmem, ⟨9, _⟩ => ⟨S384x64, .bf16⟩
  | .local _ .vmem, ⟨10, _⟩ => ⟨S384x5120, .fp8e4m3⟩
  | .local _ .vmem, ⟨11, _⟩ => ⟨S384x5120, .fp8e4m3⟩
  | .local _ .vmem, ⟨12, _⟩ => ⟨S384x40, .f32⟩
  | .local _ .vmem, ⟨13, _⟩ => ⟨S384x40, .f32⟩
  | .local _ .vmem, ⟨14, _⟩ => ⟨S2112x5120, .bf16⟩
  | .local _ .vmem, ⟨15, _⟩ => ⟨S2x256x5120, .fp8e4m3⟩
  | .local _ .vmem, ⟨16, _⟩ => ⟨S2x384x5120, .bf16⟩
  | .local _ .vmem, ⟨17, _⟩ => ⟨S384x1536, .f32⟩
  | .local _ .smem, ⟨0, _⟩ => ⟨S17x40, .f32⟩
  | _, _ => ⟨S1x6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c16_i32 : BitVec 32 := 16#32
  let v4 : BitVec 1 := Scalar.cmpi .slt arg0 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off1 (i : grid0.Coords) : Fin 3 → Nat :=
  let c1_i32_9 : BitVec 32 := 1#32
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.subi c1_i32_9 v20
  let v22 : Index := Scalar.indexCast v21
  let c0 : Index := 0#32
  let c0_10 : Index := 0#32
  ![v22.toNat, 0, 0]
def k0_off2 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v93 : Index := Scalar.indexCast v20
  let c0_35 : Index := 0#32
  let c0_36 : Index := 0#32
  ![v93.toNat, 0, 0]
def k0_off3 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v157 : Index := Scalar.indexCast v20
  let c0_58 : Index := 0#32
  let c128_59 : Index := 128#32
  ![v157.toNat, 0, 128]
def k0_off4 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v221 : Index := Scalar.indexCast v20
  let c0_81 : Index := 0#32
  let c256_82 : Index := 256#32
  ![v221.toNat, 0, 256]
def k0_off5 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v285 : Index := Scalar.indexCast v20
  let c0_104 : Index := 0#32
  let c384_105 : Index := 384#32
  ![v285.toNat, 0, 384]
def k0_off6 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v349 : Index := Scalar.indexCast v20
  let c0_127 : Index := 0#32
  let c512_128 : Index := 512#32
  ![v349.toNat, 0, 512]
def k0_off7 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v413 : Index := Scalar.indexCast v20
  let c0_150 : Index := 0#32
  let c640_151 : Index := 640#32
  ![v413.toNat, 0, 640]
def k0_off8 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v477 : Index := Scalar.indexCast v20
  let c0_173 : Index := 0#32
  let c768_174 : Index := 768#32
  ![v477.toNat, 0, 768]
def k0_off9 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v541 : Index := Scalar.indexCast v20
  let c0_196 : Index := 0#32
  let c896_197 : Index := 896#32
  ![v541.toNat, 0, 896]
def k0_off10 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v605 : Index := Scalar.indexCast v20
  let c0_219 : Index := 0#32
  let c1024_220 : Index := 1024#32
  ![v605.toNat, 0, 1024]
def k0_off11 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v669 : Index := Scalar.indexCast v20
  let c0_242 : Index := 0#32
  let c1152_243 : Index := 1152#32
  ![v669.toNat, 0, 1152]
def k0_off12 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v745 : Index := Scalar.indexCast v20
  let c0_273 : Index := 0#32
  let c1280_274 : Index := 1280#32
  ![v745.toNat, 0, 1280]
def k0_off13 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v809 : Index := Scalar.indexCast v20
  let c0_296 : Index := 0#32
  let c1408_297 : Index := 1408#32
  ![v809.toNat, 0, 1408]
def k0_off14 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v873 : Index := Scalar.indexCast v20
  let c0_319 : Index := 0#32
  let c1536_320 : Index := 1536#32
  ![v873.toNat, 0, 1536]
def k0_off15 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v937 : Index := Scalar.indexCast v20
  let c0_342 : Index := 0#32
  let c1664_343 : Index := 1664#32
  ![v937.toNat, 0, 1664]
def k0_off16 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v1001 : Index := Scalar.indexCast v20
  let c0_365 : Index := 0#32
  let c1792_366 : Index := 1792#32
  ![v1001.toNat, 0, 1792]
def k0_off17 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v1065 : Index := Scalar.indexCast v20
  let c0_388 : Index := 0#32
  let c1920_389 : Index := 1920#32
  ![v1065.toNat, 0, 1920]
def k0_off18 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v1129 : Index := Scalar.indexCast v20
  let c0_411 : Index := 0#32
  let c2048_412 : Index := 2048#32
  ![v1129.toNat, 0, 2048]
def k0_off19 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v1193 : Index := Scalar.indexCast v20
  let c0_434 : Index := 0#32
  let c2176_435 : Index := 2176#32
  ![v1193.toNat, 0, 2176]
def k0_off20 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v1257 : Index := Scalar.indexCast v20
  let c0_457 : Index := 0#32
  let c2304_458 : Index := 2304#32
  ![v1257.toNat, 0, 2304]
def k0_off21 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v1321 : Index := Scalar.indexCast v20
  let c0_480 : Index := 0#32
  let c2432_481 : Index := 2432#32
  ![v1321.toNat, 0, 2432]
def k0_off22 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v1397 : Index := Scalar.indexCast v20
  let c0_511 : Index := 0#32
  let c2560_512 : Index := 2560#32
  ![v1397.toNat, 0, 2560]
def k0_off23 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v1461 : Index := Scalar.indexCast v20
  let c0_534 : Index := 0#32
  let c2688_535 : Index := 2688#32
  ![v1461.toNat, 0, 2688]
def k0_off24 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v1525 : Index := Scalar.indexCast v20
  let c0_557 : Index := 0#32
  let c2816_558 : Index := 2816#32
  ![v1525.toNat, 0, 2816]
def k0_off25 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v1589 : Index := Scalar.indexCast v20
  let c0_580 : Index := 0#32
  let c2944_581 : Index := 2944#32
  ![v1589.toNat, 0, 2944]
def k0_off26 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v1653 : Index := Scalar.indexCast v20
  let c0_603 : Index := 0#32
  let c3072_604 : Index := 3072#32
  ![v1653.toNat, 0, 3072]
def k0_off27 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v1717 : Index := Scalar.indexCast v20
  let c0_626 : Index := 0#32
  let c3200_627 : Index := 3200#32
  ![v1717.toNat, 0, 3200]
def k0_off28 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v1781 : Index := Scalar.indexCast v20
  let c0_649 : Index := 0#32
  let c3328_650 : Index := 3328#32
  ![v1781.toNat, 0, 3328]
def k0_off29 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v1845 : Index := Scalar.indexCast v20
  let c0_672 : Index := 0#32
  let c3456_673 : Index := 3456#32
  ![v1845.toNat, 0, 3456]
def k0_off30 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v1909 : Index := Scalar.indexCast v20
  let c0_695 : Index := 0#32
  let c3584_696 : Index := 3584#32
  ![v1909.toNat, 0, 3584]
def k0_off31 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v1973 : Index := Scalar.indexCast v20
  let c0_718 : Index := 0#32
  let c3712_719 : Index := 3712#32
  ![v1973.toNat, 0, 3712]
def k0_off32 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v2057 : Index := Scalar.indexCast v20
  let c0_754 : Index := 0#32
  let c3840_755 : Index := 3840#32
  ![v2057.toNat, 0, 3840]
def k0_off33 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v2121 : Index := Scalar.indexCast v20
  let c0_777 : Index := 0#32
  let c3968_778 : Index := 3968#32
  ![v2121.toNat, 0, 3968]
def k0_off34 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v2185 : Index := Scalar.indexCast v20
  let c0_800 : Index := 0#32
  let c4096_801 : Index := 4096#32
  ![v2185.toNat, 0, 4096]
def k0_off35 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v2249 : Index := Scalar.indexCast v20
  let c0_823 : Index := 0#32
  let c4224_824 : Index := 4224#32
  ![v2249.toNat, 0, 4224]
def k0_off36 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v2313 : Index := Scalar.indexCast v20
  let c0_846 : Index := 0#32
  let c4352_847 : Index := 4352#32
  ![v2313.toNat, 0, 4352]
def k0_off37 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v2377 : Index := Scalar.indexCast v20
  let c0_869 : Index := 0#32
  let c4480_870 : Index := 4480#32
  ![v2377.toNat, 0, 4480]
def k0_off38 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v2441 : Index := Scalar.indexCast v20
  let c0_892 : Index := 0#32
  let c4608_893 : Index := 4608#32
  ![v2441.toNat, 0, 4608]
def k0_off39 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v2505 : Index := Scalar.indexCast v20
  let c0_915 : Index := 0#32
  let c4736_916 : Index := 4736#32
  ![v2505.toNat, 0, 4736]
def k0_off40 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v2569 : Index := Scalar.indexCast v20
  let c0_938 : Index := 0#32
  let c4864_939 : Index := 4864#32
  ![v2569.toNat, 0, 4864]
def k0_off41 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v2633 : Index := Scalar.indexCast v20
  let c0_961 : Index := 0#32
  let c4992_962 : Index := 4992#32
  ![v2633.toNat, 0, 4992]
def k0_cond3 (i : grid0.Coords) : BitVec 1 :=
  let arg0 : BitVec 32 := BitVec.ofNat 32 (i 0).val
  let c16_i32_3 : BitVec 32 := 16#32
  let v8 : BitVec 1 := Scalar.cmpi .eq arg0 c16_i32_3
  let v9 : BitVec 32 := Scalar.extui v8
  let c0_i32_4 : BitVec 32 := 0#32
  let v10 : BitVec 1 := Scalar.cmpi .ne v9 c0_i32_4
  v10

def k0_off42 (i : grid0.Coords) : Fin 3 → Nat :=
  let c1_i32_9 : BitVec 32 := 1#32
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v21 : BitVec 32 := Scalar.subi c1_i32_9 v20
  let v22 : Index := Scalar.indexCast v21
  let c0 : Index := 0#32
  let c0_10 : Index := 0#32
  ![v22.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 1 → Memref sig .tc .smem S17x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x40 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_ln2" => some (((Real.log 2)⁻¹ : ℝ) : EReal)
  | "inv_q" => some ((1 / 1536 : ℝ) : EReal)
  | _ => none
-- ==== ReferenceIdeal.lean ====
abbrev S1x6144x5120 : Shape := ⟨3, ![1, 6144, 5120]⟩
abbrev S2112x5120 : Shape := ⟨2, ![2112, 5120]⟩
abbrev S17x40 : Shape := ⟨2, ![17, 40]⟩
abbrev S1536 : Shape := ⟨1, ![1536]⟩
abbrev S512 : Shape := ⟨1, ![512]⟩
abbrev S6144x5120 : Shape := ⟨2, ![6144, 5120]⟩
abbrev S6144x40x128 : Shape := ⟨3, ![6144, 40, 128]⟩
abbrev S_ : Shape := ⟨0, ![]⟩
abbrev S6144x40 : Shape := ⟨2, ![6144, 40]⟩
abbrev S17x128x40 : Shape := ⟨3, ![17, 128, 40]⟩
abbrev S2176x40 : Shape := ⟨2, ![2176, 40]⟩
abbrev S2176x40x128 : Shape := ⟨3, ![2176, 40, 128]⟩
abbrev S2176x5120 : Shape := ⟨2, ![2176, 5120]⟩
abbrev S1x1536 : Shape := ⟨2, ![1, 1536]⟩
abbrev S1x512 : Shape := ⟨2, ![1, 512]⟩
abbrev S6144x1536 : Shape := ⟨2, ![6144, 1536]⟩
abbrev S6144x512 : Shape := ⟨2, ![6144, 512]⟩
abbrev S6144x64 : Shape := ⟨2, ![6144, 64]⟩
abbrev S6144x2112 : Shape := ⟨2, ![6144, 2112]⟩
abbrev S6144 : Shape := ⟨1, ![6144]⟩
abbrev S6144x1 : Shape := ⟨2, ![6144, 1]⟩

abbrev nBuf : Space → Nat
  | .hbm => 57
  | .vmem => 11
  | .smem => 0
  | _ => 0

abbrev bufTy : (tb : Table) → Fin (tcTables nBuf tb) → BufTy
  | .hbm, ⟨0, _⟩ => ⟨S1x6144x5120, .bf16⟩
  | .hbm, ⟨1, _⟩ => ⟨S2112x5120, .fp8e4m3⟩
  | .hbm, ⟨2, _⟩ => ⟨S17x40, .f32⟩
  | .hbm, ⟨3, _⟩ => ⟨S1536, .bf16⟩
  | .hbm, ⟨4, _⟩ => ⟨S512, .bf16⟩
  | .hbm, ⟨5, _⟩ => ⟨S6144x5120, .bf16⟩
  | .hbm, ⟨6, _⟩ => ⟨S6144x5120, .bf16⟩
  | .hbm, ⟨7, _⟩ => ⟨S6144x40x128, .bf16⟩
  | .hbm, ⟨8, _⟩ => ⟨S_, .bf16⟩
  | .hbm, ⟨9, _⟩ => ⟨S6144x40, .bf16⟩
  | .hbm, ⟨10, _⟩ => ⟨S6144x40, .f32⟩
  | .hbm, ⟨11, _⟩ => ⟨S_, .f32⟩
  | .hbm, ⟨12, _⟩ => ⟨S6144x40, .f32⟩
  | .hbm, ⟨13, _⟩ => ⟨S6144x40, .i1⟩
  | .hbm, ⟨14, _⟩ => ⟨S_, .f32⟩
  | .hbm, ⟨15, _⟩ => ⟨S6144x40, .f32⟩
  | .hbm, ⟨16, _⟩ => ⟨S6144x40, .f32⟩
  | .hbm, ⟨17, _⟩ => ⟨S6144x40, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S6144x40, .f32⟩
  | .hbm, ⟨22, _⟩ => ⟨S6144x40, .f32⟩
  | .hbm, ⟨23, _⟩ => ⟨S6144x40, .f32⟩
  | .hbm, ⟨24, _⟩ => ⟨S_, .f32⟩
  | .hbm, ⟨25, _⟩ => ⟨S6144x40, .f32⟩
  | .hbm, ⟨26, _⟩ => ⟨S6144x40, .f32⟩
  | .hbm, ⟨27, _⟩ => ⟨S_, .f32⟩
  | .hbm, ⟨28, _⟩ => ⟨S_, .f32⟩
  | .hbm, ⟨29, _⟩ => ⟨S6144x40, .f32⟩
  | .hbm, ⟨30, _⟩ => ⟨S6144x40, .f32⟩
  | .hbm, ⟨31, _⟩ => ⟨S_, .f32⟩
  | .hbm, ⟨32, _⟩ => ⟨S6144x40, .f32⟩
  | .hbm, ⟨33, _⟩ => ⟨S6144x40, .f32⟩
  | .hbm, ⟨34, _⟩ => ⟨S6144x40, .f32⟩
  | .hbm, ⟨35, _⟩ => ⟨S_, .f32⟩
  | .hbm, ⟨36, _⟩ => ⟨S6144x40, .f32⟩
  | .hbm, ⟨37, _⟩ => ⟨S6144x40, .f32⟩
  | .hbm, ⟨38, _⟩ => ⟨S6144x40, .bf16⟩
  | .hbm, ⟨39, _⟩ => ⟨S6144x40x128, .bf16⟩
  | .hbm, ⟨40, _⟩ => ⟨S6144x5120, .bf16⟩
  | .hbm, ⟨41, _⟩ => ⟨S6144x5120, .f32⟩
  | .hbm, ⟨42, _⟩ => ⟨S6144x40, .bf16⟩
  | .hbm, ⟨43, _⟩ => ⟨S6144x40x128, .bf16⟩
  | .hbm, ⟨44, _⟩ => ⟨S6144x5120, .bf16⟩
  | .hbm, ⟨45, _⟩ => ⟨S17x128x40, .f32⟩
  | .hbm, ⟨46, _⟩ => ⟨S2176x40, .f32⟩
  | .hbm, ⟨47, _⟩ => ⟨S2176x40x128, .f32⟩
  | .hbm, ⟨48, _⟩ => ⟨S2176x5120, .f32⟩
  | .hbm, ⟨49, _⟩ => ⟨S2112x5120, .f32⟩
  | .hbm, ⟨50, _⟩ => ⟨S2112x5120, .bf16⟩
  | .hbm, ⟨51, _⟩ => ⟨S1x1536, .bf16⟩
  | .hbm, ⟨52, _⟩ => ⟨S1x512, .bf16⟩
  | .hbm, ⟨53, _⟩ => ⟨S6144x1536, .bf16⟩
  | .hbm, ⟨54, _⟩ => ⟨S6144x512, .bf16⟩
  | .hbm, ⟨55, _⟩ => ⟨S6144x64, .bf16⟩
  | .hbm, ⟨56, _⟩ => ⟨S6144x5120, .fp8e4m3⟩
  | .local _ .vmem, ⟨0, _⟩ => ⟨S6144x5120, .bf16⟩
  | .local _ .vmem, ⟨1, _⟩ => ⟨S6144x5120, .f32⟩
  | .local _ .vmem, ⟨2, _⟩ => ⟨S6144x5120, .bf16⟩
  | .local _ .vmem, ⟨3, _⟩ => ⟨S2112x5120, .fp8e4m3⟩
  | .local _ .vmem, ⟨4, _⟩ => ⟨S2112x5120, .bf16⟩
  | .local _ .vmem, ⟨5, _⟩ => ⟨S1x1536, .bf16⟩
  | .local _ .vmem, ⟨6, _⟩ => ⟨S1x512, .bf16⟩
  | .local _ .vmem, ⟨7, _⟩ => ⟨S6144x1536, .bf16⟩
  | .local _ .vmem, ⟨8, _⟩ => ⟨S6144x512, .bf16⟩
  | .local _ .vmem, ⟨9, _⟩ => ⟨S6144x64, .bf16⟩
  | .local _ .vmem, ⟨10, _⟩ => ⟨S6144x5120, .fp8e4m3⟩
  | _, _ => ⟨S1x6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38_0 : Ref sig .tc := ⟨.hbm, 53, rfl⟩
abbrev main_v38_1 : Ref sig .tc := ⟨.hbm, 54, rfl⟩
abbrev main_v38_2 : Ref sig .tc := ⟨.hbm, 55, rfl⟩
abbrev main_v38_3 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6144x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2112x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2112x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6144x5120 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kernel.Ops.lean ====
/- The operands of the kernel body, and how the proof names a buffer held whole. -/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import Idealize.ShloMosaic.Lib.Pipeline.FrameBody
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The contents of memref `M`'s buffer on core `c`. -/
abbrev Bf (c : Dev nD) {sp : Space} {S : Shape} {e : EltTy} (M : Memref sig .tc sp S e) : Type :=
  Buf (Elt F) (M.view.loc (c : Thread nD τ))
/-- Memref `M`'s elements on core `c`, held at the contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The weight array in HBM, and the scratch buffers. -/
abbrev wM : Memref sig .tc .hbm S2112x5120 .fp8e4m3 := Memref.whole main_arg1
abbrev wsM : Memref sig .tc .vmem S2112x5120 .bf16 := Memref.whole cc0_scratch0
abbrev stM : Memref sig .tc .vmem S2x256x5120 .fp8e4m3 := Memref.whole cc0_scratch1
abbrev xsM : Memref sig .tc .vmem S2x384x5120 .bf16 := Memref.whole cc0_scratch2
abbrev yM : Memref sig .tc .vmem S384x1536 .f32 := Memref.whole cc0_scratch3

/-! ## The staging scratch's slots: a point quantises into the slot of its parity and projects from the other -/

theorem off2_eq (i : grid0.Coords) : k0_off2 i = ![(i 0).val % 2, 0, 0] := by
  unfold k0_off2; generalize i 0 = x; revert x; decide +kernel
theorem off1_eq (i : grid0.Coords) : k0_off1 i = ![1 - (i 0).val % 2, 0, 0] := by
  unfold k0_off1; generalize i 0 = x; revert x; decide +kernel
theorem off_of (i : grid0.Coords) {o : Fin 3 → ℕ} {g : ℕ} (h : o = ![k0_off2 i 0, 0, g]) : o = ![(i 0).val % 2, 0, g] := by
  rw [h, off2_eq]; rfl

instance (i : grid0.Coords) : ClosedOff (k0_off1 i) := ⟨![1 - (i 0).val % 2, 0, 0], off1_eq i⟩
instance (i : grid0.Coords) : ClosedOff (k0_off2 i) := ⟨![(i 0).val % 2, 0, 0], off_of i rfl⟩
instance (i : grid0.Coords) : ClosedOff (k0_off3 i) := ⟨![(i 0).val % 2, 0, 128], off_of i rfl⟩
instance (i : grid0.Coords) : ClosedOff (k0_off4 i) := ⟨![(i 0).val % 2, 0, 256], off_of i rfl⟩
instance (i : grid0.Coords) : ClosedOff (k0_off5 i) := ⟨![(i 0).val % 2, 0, 384], off_of i rfl⟩
instance (i : grid0.Coords) : ClosedOff (k0_off6 i) := ⟨![(i 0).val % 2, 0, 512], off_of i rfl⟩
instance (i : grid0.Coords) : ClosedOff (k0_off7 i) := ⟨![(i 0).val % 2, 0, 640], off_of i rfl⟩
instance (i : grid0.Coords) : ClosedOff (k0_off8 i) := ⟨![(i 0).val % 2, 0, 768], off_of i rfl⟩
instance (i : grid0.Coords) : ClosedOff (k0_off9 i) := ⟨![(i 0).val % 2, 0, 896], off_of i rfl⟩
instance (i : grid0.Coords) : ClosedOff (k0_off10 i) := ⟨![(i 0).val % 2, 0, 1024], off_of i rfl⟩
instance (i : grid0.Coords) : ClosedOff (k0_off11 i) := ⟨![(i 0).val % 2, 0, 1152], off_of i rfl⟩
instance (i : grid0.Coords) : ClosedOff (k0_off12 i) := ⟨![(i 0).val % 2, 0, 1280], off_of i rfl⟩
instance (i : grid0.Coords) : ClosedOff (k0_off13 i) := ⟨![(i 0).val % 2, 0, 1408], off_of i rfl⟩
instance (i : grid0.Coords) : ClosedOff (k0_off14 i) := ⟨![(i 0).val % 2, 0, 1536], off_of i rfl⟩
instance (i : grid0.Coords) : ClosedOff (k0_off15 i) := ⟨![(i 0).val % 2, 0, 1664], off_of i rfl⟩
instance (i : grid0.Coords) : ClosedOff (k0_off16 i) := ⟨![(i 0).val % 2, 0, 1792], off_of i rfl⟩
instance (i : grid0.Coords) : ClosedOff (k0_off17 i) := ⟨![(i 0).val % 2, 0, 1920], off_of i rfl⟩
instance (i : grid0.Coords) : ClosedOff (k0_off18 i) := ⟨![(i 0).val % 2, 0, 2048], off_of i rfl⟩
instance (i : grid0.Coords) : ClosedOff (k0_off19 i) := ⟨![(i 0).val % 2, 0, 2176], off_of i rfl⟩
instance (i : grid0.Coords) : ClosedOff (k0_off20 i) := ⟨![(i 0).val % 2, 0, 2304], off_of i rfl⟩
instance (i : grid0.Coords) : ClosedOff (k0_off21 i) := ⟨![(i 0).val % 2, 0, 2432], off_of i rfl⟩
instance (i : grid0.Coords) : ClosedOff (k0_off22 i) := ⟨![(i 0).val % 2, 0, 2560], off_of i rfl⟩
instance (i : grid0.Coords) : ClosedOff (k0_off23 i) := ⟨![(i 0).val % 2, 0, 2688], off_of i rfl⟩
instance (i : grid0.Coords) : ClosedOff (k0_off24 i) := ⟨![(i 0).val % 2, 0, 2816], off_of i rfl⟩
instance (i : grid0.Coords) : ClosedOff (k0_off25 i) := ⟨![(i 0).val % 2, 0, 2944], off_of i rfl⟩
instance (i : grid0.Coords) : ClosedOff (k0_off26 i) := ⟨![(i 0).val % 2, 0, 3072], off_of i rfl⟩
instance (i : grid0.Coords) : ClosedOff (k0_off27 i) := ⟨![(i 0).val % 2, 0, 3200], off_of i rfl⟩
instance (i : grid0.Coords) : ClosedOff (k0_off28 i) := ⟨![(i 0).val % 2, 0, 3328], off_of i rfl⟩
instance (i : grid0.Coords) : ClosedOff (k0_off29 i) := ⟨![(i 0).val % 2, 0, 3456], off_of i rfl⟩
instance (i : grid0.Coords) : ClosedOff (k0_off30 i) := ⟨![(i 0).val % 2, 0, 3584], off_of i rfl⟩
instance (i : grid0.Coords) : ClosedOff (k0_off31 i) := ⟨![(i 0).val % 2, 0, 3712], off_of i rfl⟩
instance (i : grid0.Coords) : ClosedOff (k0_off32 i) := ⟨![(i 0).val % 2, 0, 3840], off_of i rfl⟩
instance (i : grid0.Coords) : ClosedOff (k0_off33 i) := ⟨![(i 0).val % 2, 0, 3968], off_of i rfl⟩
instance (i : grid0.Coords) : ClosedOff (k0_off34 i) := ⟨![(i 0).val % 2, 0, 4096], off_of i rfl⟩
instance (i : grid0.Coords) : ClosedOff (k0_off35 i) := ⟨![(i 0).val % 2, 0, 4224], off_of i rfl⟩
instance (i : grid0.Coords) : ClosedOff (k0_off36 i) := ⟨![(i 0).val % 2, 0, 4352], off_of i rfl⟩
instance (i : grid0.Coords) : ClosedOff (k0_off37 i) := ⟨![(i 0).val % 2, 0, 4480], off_of i rfl⟩
instance (i : grid0.Coords) : ClosedOff (k0_off38 i) := ⟨![(i 0).val % 2, 0, 4608], off_of i rfl⟩
instance (i : grid0.Coords) : ClosedOff (k0_off39 i) := ⟨![(i 0).val % 2, 0, 4736], off_of i rfl⟩
instance (i : grid0.Coords) : ClosedOff (k0_off40 i) := ⟨![(i 0).val % 2, 0, 4864], off_of i rfl⟩
instance (i : grid0.Coords) : ClosedOff (k0_off41 i) := ⟨![(i 0).val % 2, 0, 4992], off_of i rfl⟩
instance (i : grid0.Coords) : ClosedOff (k0_off42 i) := ⟨![1 - (i 0).val % 2, 0, 0], off1_eq i⟩

end Cert.Kernel.Hand

end
-- ==== Proof.Kernel.RunFirst.lean ====
/- The kernel body at the first grid point: it dequantises the weights, fetched by transfers of its own, and quantises the first block. -/
module

public import proofs.«01_k».proof.Proof.Kernel.Ops

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option sl_exec.dmaWindow true in
/-- At the first point the body, on the weights in HBM, their scales and the first block, leaves in the codes' and
    the scales' buffers, in the weight scratch and in the staging scratch, what the run finds. -/
noncomputable def runFirst (c : Dev nD) (i : grid0.Coords) (h1 : k0_cond1 i = 1#1) (h2 : ¬ k0_cond2 i = 1#1) (h3 : ¬ k0_cond3 i = 1#1)
    (arg2 : Memref sig .tc .smem S17x40 .f32) (harg2 : arg2.IsWhole) (arg3 : Memref sig .tc .vmem S1x1536 .bf16) (harg3 : arg3.IsWhole)
    (arg4 : Memref sig .tc .vmem S1x512 .bf16) (harg4 : arg4.IsWhole) (arg5 : Memref sig .tc .vmem S384x5120 .bf16) (harg5 : arg5.IsWhole)
    (arg6 : Memref sig .tc .vmem S384x1536 .bf16) (harg6 : arg6.IsWhole) (arg7 : Memref sig .tc .vmem S384x512 .bf16) (harg7 : arg7.IsWhole)
    (arg8 : Memref sig .tc .vmem S384x64 .bf16) (harg8 : arg8.IsWhole) (arg9 : Memref sig .tc .vmem S384x5120 .fp8e4m3) (harg9 : arg9.IsWhole)
    (arg10 : Memref sig .tc .vmem S384x40 .f32) (harg10 : arg10.IsWhole)
    (f1 : Bf (F := F) c wM) (f2 : Bf (F := F) c arg2) (f5 : Bf (F := F) c arg5) :
    { W : Bf (F := F) c arg9 × Bf (F := F) c arg10 × (Bf (F := F) c stM → Bf (F := F) c wsM) × (Bf (F := F) c xsM → Bf (F := F) c xsM) //
      ∀ (g9 : Bf (F := F) c arg9) (g10 : Bf (F := F) c arg10) (gw : Bf (F := F) c wsM) (gs : Bf (F := F) c stM) (gx : Bf (F := F) c xsM)
        (W₀ : Waits sig Unit) (K : PUnit → sProp 𝕄),
        iprop((wM.view.loc (c : Thread nD τ) ↦{fullShare.left} f1) ∗ (wM.view.loc (c : Thread nD τ) ↦{fullShare.right} f1) ∗ pt c arg2 f2 ∗ pt c arg5 f5 ∗ pt c arg9 g9 ∗ pt c arg10 g10
            ∗ pt c wsM gw ∗ (stM.view.loc (c : Thread nD τ) ↦{fullShare} gs) ∗ pt c xsM gx
            ∗ semVal ((c : Thread nD τ), SemLoc.dma 15) 0 ∗ semVal ((c : Thread nD τ), SemLoc.dma 16) 0
            ∗ owes (c : Thread nD τ) 0 W₀
            ∗ (iprop((wM.view.loc (c : Thread nD τ) ↦{fullShare.left} f1) ∗ (wM.view.loc (c : Thread nD τ) ↦{fullShare.right} f1) ∗ pt c arg2 f2 ∗ pt c arg5 f5 ∗ pt c arg9 W.1 ∗ pt c arg10 W.2.1
                ∗ pt c wsM (W.2.2.1 gs) ∗ (∃ f, stM.view.loc (c : Thread nD τ) ↦{fullShare} f) ∗ pt c xsM (W.2.2.2 gx)
                ∗ semVal ((c : Thread nD τ), SemLoc.dma 15) 0 ∗ semVal ((c : Thread nD τ), SemLoc.dma 16) 0
                ∗ (∃ W', owes (c : Thread nD τ) 0 W')) -∗ K ⟨⟩))
          ⊢ wp frame (wpE (defs₀ (F := F)) Variants.none c none) Set.univ
              (cc0_mla_down_proj i wM (Memref.isWhole_whole _) arg2 harg2 arg3 harg3 arg4 harg4 arg5 harg5 arg6 harg6 arg7 harg7 arg8 harg8
                arg9 harg9 arg10 harg10 wsM (Memref.isWhole_whole _) stM (Memref.isWhole_whole _) xsM (Memref.isWhole_whole _)
                yM (Memref.isWhole_whole _) cc0_scratch4) K } := by
  refine ⟨⟨?_, ?_, ?_, ?_⟩, fun g9 g10 gw gs gx W₀ K => ?run⟩
  case run =>
    iintro ⟨H1, H1', H2, H5, H9, H10, Hw, Hs, Hx, Hq0, Hq1, HW, Hk⟩
    sl_exec_parts!
    sl_step
    iapply Hk
    isplitl [H1]; · iexact H1
    isplitl [H1']; · iexact H1'
    isplitl [H2]; · iexact H2
    isplitl [H5]; · iexact H5
    isplitl [H9]; · iexact H9
    isplitl [H10]; · iexact H10
    isplitl [Hw]; · iexact Hw
    isplitl [Hs]; · iexists _; iexact Hs
    isplitl [Hx]; · iexact Hx
    isplitl [Hq0]; · iexact Hq0
    isplitl [Hq1]; · iexact Hq1
    iexists _; iexact HW

end Cert.Kernel.Hand

end
-- ==== Proof.Kernel.RunMid.lean ====
/- The kernel body at an inner grid point: it projects and normalises the previous block while it quantises this one. -/
module

public import proofs.«01_k».proof.Proof.Kernel.Ops

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option sl_exec.closedPieces true in
/-- At an inner point the body, on the two gains, the dequantised weights, the staged blocks and this point's
    block, leaves in the five results' buffers, and in the staging scratch, what the run finds. -/
noncomputable def runMid (c : Dev nD) (i : grid0.Coords) (h1 : ¬ k0_cond1 i = 1#1) (h2 : k0_cond2 i = 1#1) (h3 : ¬ k0_cond3 i = 1#1)
    (arg2 : Memref sig .tc .smem S17x40 .f32) (harg2 : arg2.IsWhole) (arg3 : Memref sig .tc .vmem S1x1536 .bf16) (harg3 : arg3.IsWhole)
    (arg4 : Memref sig .tc .vmem S1x512 .bf16) (harg4 : arg4.IsWhole) (arg5 : Memref sig .tc .vmem S384x5120 .bf16) (harg5 : arg5.IsWhole)
    (arg6 : Memref sig .tc .vmem S384x1536 .bf16) (harg6 : arg6.IsWhole) (arg7 : Memref sig .tc .vmem S384x512 .bf16) (harg7 : arg7.IsWhole)
    (arg8 : Memref sig .tc .vmem S384x64 .bf16) (harg8 : arg8.IsWhole) (arg9 : Memref sig .tc .vmem S384x5120 .fp8e4m3) (harg9 : arg9.IsWhole)
    (arg10 : Memref sig .tc .vmem S384x40 .f32) (harg10 : arg10.IsWhole)
    (f3 : Bf (F := F) c arg3) (f4 : Bf (F := F) c arg4) (f5 : Bf (F := F) c arg5) (fw : Bf (F := F) c wsM) (fx : Bf (F := F) c xsM) :
    { W : Bf (F := F) c arg6 × Bf (F := F) c arg7 × Bf (F := F) c arg8 × Bf (F := F) c arg9 × Bf (F := F) c arg10 × Bf (F := F) c xsM //
      ∀ (g6 : Bf (F := F) c arg6) (g7 : Bf (F := F) c arg7) (g8 : Bf (F := F) c arg8) (g9 : Bf (F := F) c arg9) (g10 : Bf (F := F) c arg10)
        (gy : Bf (F := F) c yM) (K : PUnit → sProp 𝕄),
        iprop(pt c arg3 f3 ∗ pt c arg4 f4 ∗ pt c arg5 f5 ∗ pt c wsM fw ∗ pt c xsM fx
            ∗ pt c arg6 g6 ∗ pt c arg7 g7 ∗ pt c arg8 g8 ∗ pt c arg9 g9 ∗ pt c arg10 g10 ∗ pt c yM gy
            ∗ (iprop(pt c arg3 f3 ∗ pt c arg4 f4 ∗ pt c arg5 f5 ∗ pt c wsM fw ∗ pt c xsM W.2.2.2.2.2
                ∗ pt c arg6 W.1 ∗ pt c arg7 W.2.1 ∗ pt c arg8 W.2.2.1 ∗ pt c arg9 W.2.2.2.1 ∗ pt c arg10 W.2.2.2.2.1
                ∗ (∃ f, pt c yM f)) -∗ K ⟨⟩))
          ⊢ wp frame (wpE (defs₀ (F := F)) Variants.none c none) Set.univ
              (cc0_mla_down_proj i wM (Memref.isWhole_whole _) arg2 harg2 arg3 harg3 arg4 harg4 arg5 harg5 arg6 harg6 arg7 harg7 arg8 harg8
                arg9 harg9 arg10 harg10 wsM (Memref.isWhole_whole _) stM (Memref.isWhole_whole _) xsM (Memref.isWhole_whole _)
                yM (Memref.isWhole_whole _) cc0_scratch4) K } := by
  refine ⟨⟨?_, ?_, ?_, ?_, ?_, ?_⟩, fun g6 g7 g8 g9 g10 gy K => ?run⟩
  case run =>
    iintro ⟨H3, H4, H5, Hw, Hx, H6, H7, H8, H9, H10, Hy, Hk⟩
    sl_exec_parts!
    sl_step
    iapply Hk
    isplitl [H3]; · iexact H3
    isplitl [H4]; · iexact H4
    isplitl [H5]; · iexact H5
    isplitl [Hw]; · iexact Hw
    isplitl [Hx]; · iexact Hx
    isplitl [H6]; · iexact H6
    isplitl [H7]; · iexact H7
    isplitl [H8]; · iexact H8
    isplitl [H9]; · iexact H9
    isplitl [H10]; · iexact H10
    iexists _; iexact Hy

end Cert.Kernel.Hand

end
-- ==== Proof.Kernel.RunLast.lean ====
/- The kernel body at the last grid point: it projects the last block and normalises it. -/
module

public import proofs.«01_k».proof.Proof.Kernel.Ops

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- At the last point the body, on the two gains, the dequantised weights and the staged block, leaves in the
    three results' buffers the pieces the run finds. -/
noncomputable def runLast (c : Dev nD) (i : grid0.Coords) (h1 : ¬ k0_cond1 i = 1#1) (h2 : ¬ k0_cond2 i = 1#1) (h3 : k0_cond3 i = 1#1)
    (arg2 : Memref sig .tc .smem S17x40 .f32) (harg2 : arg2.IsWhole) (arg3 : Memref sig .tc .vmem S1x1536 .bf16) (harg3 : arg3.IsWhole)
    (arg4 : Memref sig .tc .vmem S1x512 .bf16) (harg4 : arg4.IsWhole) (arg5 : Memref sig .tc .vmem S384x5120 .bf16) (harg5 : arg5.IsWhole)
    (arg6 : Memref sig .tc .vmem S384x1536 .bf16) (harg6 : arg6.IsWhole) (arg7 : Memref sig .tc .vmem S384x512 .bf16) (harg7 : arg7.IsWhole)
    (arg8 : Memref sig .tc .vmem S384x64 .bf16) (harg8 : arg8.IsWhole) (arg9 : Memref sig .tc .vmem S384x5120 .fp8e4m3) (harg9 : arg9.IsWhole)
    (arg10 : Memref sig .tc .vmem S384x40 .f32) (harg10 : arg10.IsWhole)
    (f3 : Bf (F := F) c arg3) (f4 : Bf (F := F) c arg4) (fw : Bf (F := F) c wsM) (fx : Bf (F := F) c xsM) :
    { W : Bf (F := F) c arg6 × Bf (F := F) c arg7 × Bf (F := F) c arg8 //
      ∀ (g6 : Bf (F := F) c arg6) (g7 : Bf (F := F) c arg7) (g8 : Bf (F := F) c arg8) (gy : Bf (F := F) c yM) (K : PUnit → sProp 𝕄),
        iprop(pt c arg3 f3 ∗ pt c arg4 f4 ∗ pt c wsM fw ∗ pt c xsM fx
            ∗ pt c arg6 g6 ∗ pt c arg7 g7 ∗ pt c arg8 g8 ∗ pt c yM gy
            ∗ (iprop(pt c arg3 f3 ∗ pt c arg4 f4 ∗ pt c wsM fw ∗ pt c xsM fx
                ∗ pt c arg6 W.1 ∗ pt c arg7 W.2.1 ∗ pt c arg8 W.2.2 ∗ (∃ f, pt c yM f)) -∗ K ⟨⟩))
          ⊢ wp frame (wpE (defs₀ (F := F)) Variants.none c none) Set.univ
              (cc0_mla_down_proj i wM (Memref.isWhole_whole _) arg2 harg2 arg3 harg3 arg4 harg4 arg5 harg5 arg6 harg6 arg7 harg7 arg8 harg8
                arg9 harg9 arg10 harg10 wsM (Memref.isWhole_whole _) stM (Memref.isWhole_whole _) xsM (Memref.isWhole_whole _)
                yM (Memref.isWhole_whole _) cc0_scratch4) K } := by
  refine ⟨⟨?_, ?_, ?_⟩, fun g6 g7 g8 gy K => ?run⟩
  case run =>
    iintro ⟨H3, H4, Hw, Hx, H6, H7, H8, Hy, Hk⟩
    sl_exec_parts!
    sl_step
    iapply Hk
    isplitl [H3]; · iexact H3
    isplitl [H4]; · iexact H4
    isplitl [Hw]; · iexact Hw
    isplitl [Hx]; · iexact Hx
    isplitl [H6]; · iexact H6
    isplitl [H7]; · iexact H7
    isplitl [H8]; · iexact H8
    iexists _; iexact Hy

end Cert.Kernel.Hand

end
-- ==== Proof.Kernel.Frame.lean ====
/- The frame of the program: the launch, the body at each of the grid's points, and what each point leaves in the buffers. -/
module

public import proofs.«01_k».proof.Proof.Gen.Kernel.Frame
public import proofs.«01_k».proof.Proof.Kernel.RunFirst
public import proofs.«01_k».proof.Proof.Kernel.RunMid
public import proofs.«01_k».proof.Proof.Kernel.RunLast
public import Idealize.ShloMosaic.Lib.Pipeline.DatRel
public import Idealize.ShloMosaic.Lib.Pipeline.ArrRel

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the buffers hold -/

/-- The weight scratch holds what the first point's run leaves there from the weights and their scales. -/
def WsIs (c : Dev nD) (fw : Bf (F := F) c wsM) : Prop :=
  ∃ (arg2 : Memref sig .tc .smem S17x40 .f32) (f2 : Bf (F := F) c arg2) (t : Fin cfg0.N) (gs : Bf (F := F) c stM),
    arg2.view.read (Elt F) f2 = iblk m c 0 t
    ∧ fw = wsM.view.writes (Elt F) wsM.view.junk (runFirst.sl.Hw_680 c arg2 (V m c main_arg1) f2 gs)
/-- The slot of the dequantised rows that point `n` fills holds what that point's run leaves there. -/
def XsIs (c : Dev nD) (n : ℕ) (fx : Bf (F := F) c xsM) : Prop :=
  ∃ (t : Fin cfg0.N) (arg5 : Memref sig .tc .vmem S384x5120 .bf16) (f5 : Bf (F := F) c arg5) (gx : Bf (F := F) c xsM),
    t.val = n ∧ arg5.view.read (Elt F) f5 = iblk m c 3 t
    ∧ ((n = 0 ∧ fx = xsM.view.writes (Elt F) gx (runFirst.sl.Hx_40 c arg5 f5))
      ∨ ∃ h2 : k0_cond2 (grid0.coords t) = 1#1, fx = xsM.view.writes (Elt F) gx (runMid.sl.Hx_40 c (grid0.coords t) h2 arg5 f5))
/-- The codes of block `n`: what the run of point `n` leaves in the codes' buffer. -/
def CodesIs (c : Dev nD) (n : ℕ) (X : S384x5120.Idx → Elt F .fp8e4m3) : Prop :=
  ∃ (t : Fin cfg0.N) (arg5 : Memref sig .tc .vmem S384x5120 .bf16) (f5 : Bf (F := F) c arg5) (arg9 : Memref sig .tc .vmem S384x5120 .fp8e4m3),
    t.val = n ∧ arg5.view.read (Elt F) f5 = iblk m c 3 t
    ∧ (X = arg9.view.read (Elt F) (arg9.view.writes (Elt F) arg9.view.junk (runFirst.sl.H9_40 c arg5 f5))
      ∨ X = arg9.view.read (Elt F) (arg9.view.writes (Elt F) arg9.view.junk (runMid.sl.H9_40 c arg5 f5)))
/-- The scales of block `n`: what the run of point `n` leaves in the scales' buffer. -/
def ScalesIs (c : Dev nD) (n : ℕ) (X : S384x40.Idx → Elt F .f32) : Prop :=
  ∃ (t : Fin cfg0.N) (arg5 : Memref sig .tc .vmem S384x5120 .bf16) (f5 : Bf (F := F) c arg5) (arg10 : Memref sig .tc .vmem S384x40 .f32),
    t.val = n ∧ arg5.view.read (Elt F) f5 = iblk m c 3 t
    ∧ (X = arg10.view.read (Elt F) (arg10.view.writes (Elt F) arg10.view.junk (runFirst.sl.H10_40 c arg5 f5))
      ∨ X = arg10.view.read (Elt F) (arg10.view.writes (Elt F) arg10.view.junk (runMid.sl.H10_40 c arg5 f5)))
/-- The query rows at point `t`: what the run there leaves in the result's buffer, from the weight scratch and the rows filled at the point before. -/
def QIs (c : Dev nD) (t : Fin cfg0.N) (X : S384x1536.Idx → Elt F .bf16) : Prop :=
  ∃ (n : ℕ) (fw : Bf (F := F) c wsM) (fx : Bf (F := F) c xsM) (arg6 : Memref sig .tc .vmem S384x1536 .bf16) (arg3 : Memref sig .tc .vmem S1x1536 .bf16) (f3 : Bf (F := F) c arg3),
    n + 1 = t.val ∧ WsIs m c fw ∧ XsIs m c n fx ∧ arg3.view.read (Elt F) f3 = iblk m c 1 t ∧
      ((∃ (h2 : k0_cond2 (grid0.coords t) = 1#1) (arg5 : Memref sig .tc .vmem S384x5120 .bf16) (f5 : Bf (F := F) c arg5),
          X = arg6.view.read (Elt F) (arg6.view.writes (Elt F) arg6.view.junk (runMid.sl.H6_1 c (grid0.coords t) h2 arg3 arg5 f3 f5 fw fx)))
      ∨ (∃ h3 : k0_cond3 (grid0.coords t) = 1#1,
          X = arg6.view.read (Elt F) (arg6.view.writes (Elt F) arg6.view.junk (runLast.sl.H6_1 c (grid0.coords t) h3 arg3 f3 fw fx))))
/-- The compressed rows at point `t`: what the run there leaves in the result's buffer, from the weight scratch and the rows filled at the point before. -/
def CIs (c : Dev nD) (t : Fin cfg0.N) (X : S384x512.Idx → Elt F .bf16) : Prop :=
  ∃ (n : ℕ) (fw : Bf (F := F) c wsM) (fx : Bf (F := F) c xsM) (arg7 : Memref sig .tc .vmem S384x512 .bf16) (arg4 : Memref sig .tc .vmem S1x512 .bf16) (f4 : Bf (F := F) c arg4),
    n + 1 = t.val ∧ WsIs m c fw ∧ XsIs m c n fx ∧ arg4.view.read (Elt F) f4 = iblk m c 2 t ∧
      ((∃ (h2 : k0_cond2 (grid0.coords t) = 1#1) (arg5 : Memref sig .tc .vmem S384x5120 .bf16) (f5 : Bf (F := F) c arg5),
          X = arg7.view.read (Elt F) (arg7.view.writes (Elt F) arg7.view.junk (runMid.sl.H7_1 c (grid0.coords t) h2 arg4 arg5 f4 f5 fw fx)))
      ∨ (∃ h3 : k0_cond3 (grid0.coords t) = 1#1,
          X = arg7.view.read (Elt F) (arg7.view.writes (Elt F) arg7.view.junk (runLast.sl.H7_1 c (grid0.coords t) h3 arg4 f4 fw fx))))
/-- The position rows at point `t`: what the run there leaves in the result's buffer, from the weight scratch and the rows filled at the point before. -/
def KIs (c : Dev nD) (t : Fin cfg0.N) (X : S384x64.Idx → Elt F .bf16) : Prop :=
  ∃ (n : ℕ) (fw : Bf (F := F) c wsM) (fx : Bf (F := F) c xsM) (arg8 : Memref sig .tc .vmem S384x64 .bf16),
    n + 1 = t.val ∧ WsIs m c fw ∧ XsIs m c n fx ∧
      ((∃ (h2 : k0_cond2 (grid0.coords t) = 1#1) (arg5 : Memref sig .tc .vmem S384x5120 .bf16) (f5 : Bf (F := F) c arg5),
          X = arg8.view.read (Elt F) (arg8.view.writes (Elt F) arg8.view.junk (runMid.sl.H8_1 c (grid0.coords t) h2 arg5 f5 fw fx)))
      ∨ (∃ h3 : k0_cond3 (grid0.coords t) = 1#1,
          X = arg8.view.read (Elt F) (arg8.view.writes (Elt F) arg8.view.junk (runLast.sl.H8_1 c (grid0.coords t) h3 fw fx))))

/-! ## The proof data -/

/-- The windows whose contents after a point are held to a property: the five results. -/
def held : Fin 9 → Bool := fun w => decide (4 ≤ w.val)

/-- What a result's buffer holds after point `t`: a projection's nothing before the second point, the quantiser's
    always those of the last block filled. -/
def Rl (c : Dev nD) (w : Fin 9) (t : Fin cfg0.N) (X : (cfg0.win w).block.Idx → Elt F (cfg0.win w).elt) : Prop :=
  match w, X with
  | ⟨4, _⟩, X => t.val ≠ 0 → QIs m c t X
  | ⟨5, _⟩, X => t.val ≠ 0 → CIs m c t X
  | ⟨6, _⟩, X => t.val ≠ 0 → KIs m c t X
  | ⟨7, _⟩, X => CodesIs m c (min t.val 15) X
  | ⟨8, _⟩, X => ScalesIs m c (min t.val 15) X
  | ⟨0, _⟩, _ => True
  | ⟨1, _⟩, _ => True
  | ⟨2, _⟩, _ => True
  | ⟨3, _⟩, _ => True

/-- The body's two transfer semaphores. -/
abbrev osem0 : Fin 2 → SemLoc sig := fun j => (![SemLoc.dma 15, SemLoc.dma 16] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0) := by
  rw [Pipeline.ownSems0_eq_of_list c osem0 [0, 1] (by decide) (by decide)]; rfl
/-- The operand left in HBM that the body's transfers read: the weights. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = (wM.view.loc (c : Thread nD τ) ↦{fullShare} V m c main_arg1) := by
  rw [BI.bigSep_eq_bigSepL_of_eq [main_arg1] (by decide) (by decide)]; rfl

/-- The invariant before point `n`: the scratch buffers, the weight scratch filled from the first point on and the rows' slot of the
    last point filled; the generator register; the transfer semaphores at zero; the weights. -/
def Phi (c : Dev nD) (n : ℕ) : sProp 𝕄 :=
  iprop(iprop((∃ fw, ⌜0 < n → WsIs m c fw⌝ ∗ (wsM.view.loc (c : Thread nD τ) ↦{fullShare} fw))
      ∗ (∃ f, stM.view.loc (c : Thread nD τ) ↦{fullShare} f)
      ∗ (∃ fx, ⌜∀ k, k + 1 = n → n < 17 → XsIs m c k fx⌝ ∗ (xsM.view.loc (c : Thread nD τ) ↦{fullShare} fx))
      ∗ (∃ f, yM.view.loc (c : Thread nD τ) ↦{fullShare} f))
    ∗ (∃ r, prngReg c r)
    ∗ iprop(semVal ((c : Thread nD τ), SemLoc.dma 15) 0 ∗ semVal ((c : Thread nD τ), SemLoc.dma 16) 0)
    ∗ (wM.view.loc (c : Thread nD τ) ↦{fullShare} V m c main_arg1))

theorem PhiD_eq (c : Dev nD) :
    (Pipeline.ΦD osem0 spec0 H0 (V m) c : sProp 𝕄)
      = iprop(iprop((∃ f, wsM.view.loc (c : Thread nD τ) ↦{fullShare} f) ∗ (∃ f, stM.view.loc (c : Thread nD τ) ↦{fullShare} f)
          ∗ (∃ f, xsM.view.loc (c : Thread nD τ) ↦{fullShare} f) ∗ (∃ f, yM.view.loc (c : Thread nD τ) ↦{fullShare} f))
        ∗ (∃ r, prngReg c r)
        ∗ iprop(semVal ((c : Thread nD τ), SemLoc.dma 15) 0 ∗ semVal ((c : Thread nD τ), SemLoc.dma 16) 0)
        ∗ (wM.view.loc (c : Thread nD τ) ↦{fullShare} V m c main_arg1)) := by
  rw [Pipeline.ΦD_eq, scopedRest0_eq, ownSems00_eq, hbmPts0_eq]

theorem Phi_in (c : Dev nD) : (Pipeline.ΦD osem0 spec0 H0 (V m) c : sProp 𝕄) ⊢ Phi m c 0 := by
  rw [PhiD_eq]; unfold Phi
  iintro ⟨⟨⟨%fw, Hw⟩, Hs, ⟨%fx, Hx⟩, Hy⟩, Hg, Hq, Hm⟩
  isplitl [Hw Hs Hx Hy]
  · isplitl [Hw]
    · iexists fw; isplitr
      · ipureintro; exact fun h => absurd h (Nat.lt_irrefl 0)
      iexact Hw
    isplitl [Hs]; · iexact Hs
    isplitl [Hx]
    · iexists fx; isplitr
      · ipureintro; exact fun k h => absurd h (Nat.succ_ne_zero k)
      iexact Hx
    iexact Hy
  isplitl [Hg]; · iexact Hg
  isplitl [Hq]; · iexact Hq
  iexact Hm

theorem Phi_out (c : Dev nD) (n : ℕ) : (Phi m c n : sProp 𝕄) ⊢ Pipeline.ΦD osem0 spec0 H0 (V m) c := by
  rw [PhiD_eq]; unfold Phi
  iintro ⟨⟨⟨%fw, -, Hw⟩, Hs, ⟨%fx, -, Hx⟩, Hy⟩, Hg, Hq, Hm⟩
  isplitl [Hw Hs Hx Hy]
  · isplitl [Hw]; · iexists fw; iexact Hw
    isplitl [Hs]; · iexact Hs
    isplitl [Hx]; · iexists fx; iexact Hx
    iexact Hy
  isplitl [Hg]; · iexact Hg
  isplitl [Hq]; · iexact Hq
  iexact Hm

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed 4 t
    | ⟨5, _⟩ => Dat.unnamed 5 t
    | ⟨6, _⟩ => Dat.unnamed 6 t
    | ⟨7, _⟩ => Dat.unnamed 7 t
    | ⟨8, _⟩ => Dat.unnamed 8 t
  Φ n := Phi m c n.val
  q _ := fullShare
  owed _ := 0

/-- The same data with the results' windows held to `Rl`. -/
abbrev rdat (c : Dev nD) : RDat τ (Elt F) Unit ℕ (Pipeline.UD sig nD τ) ℕ cfg0 c := (dats m 0 c).toRRel held (Rl m c)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; rfl)

/-! ## The body at a point -/

/-- Which of the body's three cases a point is. -/
theorem cond_cases : ∀ t : Fin cfg0.N,
    (t.val = 0 ∧ k0_cond1 (grid0.coords t) = 1#1 ∧ ¬ k0_cond2 (grid0.coords t) = 1#1 ∧ ¬ k0_cond3 (grid0.coords t) = 1#1)
    ∨ (0 < t.val ∧ t.val < 16 ∧ ¬ k0_cond1 (grid0.coords t) = 1#1 ∧ k0_cond2 (grid0.coords t) = 1#1 ∧ ¬ k0_cond3 (grid0.coords t) = 1#1)
    ∨ (t.val = 16 ∧ ¬ k0_cond1 (grid0.coords t) = 1#1 ∧ ¬ k0_cond2 (grid0.coords t) = 1#1 ∧ k0_cond3 (grid0.coords t) = 1#1) := by
  decide +kernel

theorem nofetch7 : ∀ t : Fin cfg0.N, (cfg0.win 7).fetch t = false := fun _ => rfl
theorem nofetch8 : ∀ t : Fin cfg0.N, (cfg0.win 8).fetch t = false := fun _ => rfl
theorem noflush7 : ∀ t : Fin cfg0.N, t.val = 15 → (cfg0.win 7).flush t = false := by decide +kernel
theorem noflush8 : ∀ t : Fin cfg0.N, t.val = 15 → (cfg0.win 8).flush t = false := by decide +kernel

/-- At the last point the codes' buffer still holds the last block's codes, -/
theorem finds7 (c : Dev nD) (t : Fin cfg0.N) (ht : t.val = 16) (Y) (h : (rdat m c).Finds 7 t Y) : Rl m c 7 t Y := by
  rw [(rdat m c).finds_of_pos (nofetch7 t) (by omega)] at h
  rcases h with h | h
  · rw [noflush7 _ (by show t.val - 1 = 15; omega)] at h; exact absurd h Bool.false_ne_true
  · have h' := (dats m 0 c).toRRel_leaves (fgt := held) (Rl := Rl m c) rfl h
    unfold Rl at h' ⊢
    simp only [show min (t.val - 1) 15 = 15 by omega, show min t.val 15 = 15 by omega] at h' ⊢
    exact h'
/-- and the scales' its scales. -/
theorem finds8 (c : Dev nD) (t : Fin cfg0.N) (ht : t.val = 16) (Y) (h : (rdat m c).Finds 8 t Y) : Rl m c 8 t Y := by
  rw [(rdat m c).finds_of_pos (nofetch8 t) (by omega)] at h
  rcases h with h | h
  · rw [noflush8 _ (by show t.val - 1 = 15; omega)] at h; exact absurd h Bool.false_ne_true
  · have h' := (dats m 0 c).toRRel_leaves (fgt := held) (Rl := Rl m c) rfl h
    unfold Rl at h' ⊢
    simp only [show min (t.val - 1) 15 = 15 by omega, show min t.val 15 = 15 by omega] at h' ⊢
    exact h'

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜(rdat m c).Finds 4 t Y⌝ ∗ owns (c : Thread nD τ) (st0_4 t) fullShare Y)
    ∗ (∃ Y, ⌜(rdat m c).Finds 5 t Y⌝ ∗ owns (c : Thread nD τ) (st0_5 t) fullShare Y)
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜Rl m c 4 t X⌝ ∗ owns (c : Thread nD τ) (st0_4 t) fullShare X)
    ∗ (∃ X, ⌜Rl m c 5 t X⌝ ∗ owns (c : Thread nD τ) (st0_5 t) fullShare X)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X))

/-! ## What the runs leave -/

section
variable (c : Dev nD) (i : grid0.Coords) (h1 : k0_cond1 i = 1#1) (h2 : ¬ k0_cond2 i = 1#1) (h3 : ¬ k0_cond3 i = 1#1)
    (arg2 : Memref sig .tc .smem S17x40 .f32) (harg2 : arg2.IsWhole) (arg3 : Memref sig .tc .vmem S1x1536 .bf16) (harg3 : arg3.IsWhole)
    (arg4 : Memref sig .tc .vmem S1x512 .bf16) (harg4 : arg4.IsWhole) (arg5 : Memref sig .tc .vmem S384x5120 .bf16) (harg5 : arg5.IsWhole)
    (arg6 : Memref sig .tc .vmem S384x1536 .bf16) (harg6 : arg6.IsWhole) (arg7 : Memref sig .tc .vmem S384x512 .bf16) (harg7 : arg7.IsWhole)
    (arg8 : Memref sig .tc .vmem S384x64 .bf16) (harg8 : arg8.IsWhole) (arg9 : Memref sig .tc .vmem S384x5120 .fp8e4m3) (harg9 : arg9.IsWhole)
    (arg10 : Memref sig .tc .vmem S384x40 .f32) (harg10 : arg10.IsWhole)
    (f1 : Bf (F := F) c wM) (f2 : Bf (F := F) c arg2) (f5 : Bf (F := F) c arg5)
theorem runFirst_codes : (runFirst c i h1 h2 h3 arg2 harg2 arg3 harg3 arg4 harg4 arg5 harg5 arg6 harg6 arg7 harg7 arg8 harg8 arg9 harg9 arg10 harg10 f1 f2 f5).1.1 = arg9.view.writes (Elt F) arg9.view.junk (runFirst.sl.H9_40 c arg5 f5) := by rw [runFirst]
theorem runFirst_scales : (runFirst c i h1 h2 h3 arg2 harg2 arg3 harg3 arg4 harg4 arg5 harg5 arg6 harg6 arg7 harg7 arg8 harg8 arg9 harg9 arg10 harg10 f1 f2 f5).1.2.1 = arg10.view.writes (Elt F) arg10.view.junk (runFirst.sl.H10_40 c arg5 f5) := by rw [runFirst]
theorem runFirst_ws (gs) : (runFirst c i h1 h2 h3 arg2 harg2 arg3 harg3 arg4 harg4 arg5 harg5 arg6 harg6 arg7 harg7 arg8 harg8 arg9 harg9 arg10 harg10 f1 f2 f5).1.2.2.1 gs = wsM.view.writes (Elt F) wsM.view.junk (runFirst.sl.Hw_680 c arg2 f1 f2 gs) := by rw [runFirst]
theorem runFirst_xs (gx) : (runFirst c i h1 h2 h3 arg2 harg2 arg3 harg3 arg4 harg4 arg5 harg5 arg6 harg6 arg7 harg7 arg8 harg8 arg9 harg9 arg10 harg10 f1 f2 f5).1.2.2.2 gx = xsM.view.writes (Elt F) gx (runFirst.sl.Hx_40 c arg5 f5) := by rw [runFirst]
end
section
variable (c : Dev nD) (i : grid0.Coords) (h1 : ¬ k0_cond1 i = 1#1) (h2 : k0_cond2 i = 1#1) (h3 : ¬ k0_cond3 i = 1#1)
    (arg2 : Memref sig .tc .smem S17x40 .f32) (harg2 : arg2.IsWhole) (arg3 : Memref sig .tc .vmem S1x1536 .bf16) (harg3 : arg3.IsWhole)
    (arg4 : Memref sig .tc .vmem S1x512 .bf16) (harg4 : arg4.IsWhole) (arg5 : Memref sig .tc .vmem S384x5120 .bf16) (harg5 : arg5.IsWhole)
    (arg6 : Memref sig .tc .vmem S384x1536 .bf16) (harg6 : arg6.IsWhole) (arg7 : Memref sig .tc .vmem S384x512 .bf16) (harg7 : arg7.IsWhole)
    (arg8 : Memref sig .tc .vmem S384x64 .bf16) (harg8 : arg8.IsWhole) (arg9 : Memref sig .tc .vmem S384x5120 .fp8e4m3) (harg9 : arg9.IsWhole)
    (arg10 : Memref sig .tc .vmem S384x40 .f32) (harg10 : arg10.IsWhole)
    (f3 : Bf (F := F) c arg3) (f4 : Bf (F := F) c arg4) (f5 : Bf (F := F) c arg5) (fw : Bf (F := F) c wsM) (fx : Bf (F := F) c xsM)
theorem runMid_q : (runMid c i h1 h2 h3 arg2 harg2 arg3 harg3 arg4 harg4 arg5 harg5 arg6 harg6 arg7 harg7 arg8 harg8 arg9 harg9 arg10 harg10 f3 f4 f5 fw fx).1.1 = arg6.view.writes (Elt F) arg6.view.junk (runMid.sl.H6_1 c i h2 arg3 arg5 f3 f5 fw fx) := by rw [runMid]
theorem runMid_c : (runMid c i h1 h2 h3 arg2 harg2 arg3 harg3 arg4 harg4 arg5 harg5 arg6 harg6 arg7 harg7 arg8 harg8 arg9 harg9 arg10 harg10 f3 f4 f5 fw fx).1.2.1 = arg7.view.writes (Elt F) arg7.view.junk (runMid.sl.H7_1 c i h2 arg4 arg5 f4 f5 fw fx) := by rw [runMid]
theorem runMid_k : (runMid c i h1 h2 h3 arg2 harg2 arg3 harg3 arg4 harg4 arg5 harg5 arg6 harg6 arg7 harg7 arg8 harg8 arg9 harg9 arg10 harg10 f3 f4 f5 fw fx).1.2.2.1 = arg8.view.writes (Elt F) arg8.view.junk (runMid.sl.H8_1 c i h2 arg5 f5 fw fx) := by rw [runMid]
theorem runMid_codes : (runMid c i h1 h2 h3 arg2 harg2 arg3 harg3 arg4 harg4 arg5 harg5 arg6 harg6 arg7 harg7 arg8 harg8 arg9 harg9 arg10 harg10 f3 f4 f5 fw fx).1.2.2.2.1 = arg9.view.writes (Elt F) arg9.view.junk (runMid.sl.H9_40 c arg5 f5) := by rw [runMid]
theorem runMid_scales : (runMid c i h1 h2 h3 arg2 harg2 arg3 harg3 arg4 harg4 arg5 harg5 arg6 harg6 arg7 harg7 arg8 harg8 arg9 harg9 arg10 harg10 f3 f4 f5 fw fx).1.2.2.2.2.1 = arg10.view.writes (Elt F) arg10.view.junk (runMid.sl.H10_40 c arg5 f5) := by rw [runMid]
theorem runMid_xs : (runMid c i h1 h2 h3 arg2 harg2 arg3 harg3 arg4 harg4 arg5 harg5 arg6 harg6 arg7 harg7 arg8 harg8 arg9 harg9 arg10 harg10 f3 f4 f5 fw fx).1.2.2.2.2.2 = xsM.view.writes (Elt F) fx (runMid.sl.Hx_40 c i h2 arg5 f5) := by rw [runMid]
end
section
variable (c : Dev nD) (i : grid0.Coords) (h1 : ¬ k0_cond1 i = 1#1) (h2 : ¬ k0_cond2 i = 1#1) (h3 : k0_cond3 i = 1#1)
    (arg2 : Memref sig .tc .smem S17x40 .f32) (harg2 : arg2.IsWhole) (arg3 : Memref sig .tc .vmem S1x1536 .bf16) (harg3 : arg3.IsWhole)
    (arg4 : Memref sig .tc .vmem S1x512 .bf16) (harg4 : arg4.IsWhole) (arg5 : Memref sig .tc .vmem S384x5120 .bf16) (harg5 : arg5.IsWhole)
    (arg6 : Memref sig .tc .vmem S384x1536 .bf16) (harg6 : arg6.IsWhole) (arg7 : Memref sig .tc .vmem S384x512 .bf16) (harg7 : arg7.IsWhole)
    (arg8 : Memref sig .tc .vmem S384x64 .bf16) (harg8 : arg8.IsWhole) (arg9 : Memref sig .tc .vmem S384x5120 .fp8e4m3) (harg9 : arg9.IsWhole)
    (arg10 : Memref sig .tc .vmem S384x40 .f32) (harg10 : arg10.IsWhole)
    (f3 : Bf (F := F) c arg3) (f4 : Bf (F := F) c arg4) (fw : Bf (F := F) c wsM) (fx : Bf (F := F) c xsM)
theorem runLast_q : (runLast c i h1 h2 h3 arg2 harg2 arg3 harg3 arg4 harg4 arg5 harg5 arg6 harg6 arg7 harg7 arg8 harg8 arg9 harg9 arg10 harg10 f3 f4 fw fx).1.1 = arg6.view.writes (Elt F) arg6.view.junk (runLast.sl.H6_1 c i h3 arg3 f3 fw fx) := by rw [runLast]
theorem runLast_c : (runLast c i h1 h2 h3 arg2 harg2 arg3 harg3 arg4 harg4 arg5 harg5 arg6 harg6 arg7 harg7 arg8 harg8 arg9 harg9 arg10 harg10 f3 f4 fw fx).1.2.1 = arg7.view.writes (Elt F) arg7.view.junk (runLast.sl.H7_1 c i h3 arg4 f4 fw fx) := by rw [runLast]
theorem runLast_k : (runLast c i h1 h2 h3 arg2 harg2 arg3 harg3 arg4 harg4 arg5 harg5 arg6 harg6 arg7 harg7 arg8 harg8 arg9 harg9 arg10 harg10 f3 f4 fw fx).1.2.2 = arg8.view.writes (Elt F) arg8.view.junk (runLast.sl.H8_1 c i h3 fw fx) := by rw [runLast]
end

theorem pt_ws (c : Dev nD) (f) : (pt c wsM f : sProp 𝕄) = (wsM.view.loc (c : Thread nD τ) ↦{fullShare} f) := by
  unfold pt; rw [show wsM.view.set = Finset.univ from View.set_whole _]
theorem pt_xs (c : Dev nD) (f) : (pt c xsM f : sProp 𝕄) = (xsM.view.loc (c : Thread nD τ) ↦{fullShare} f) := by
  unfold pt; rw [show xsM.view.set = Finset.univ from View.set_whole _]
theorem pt_y (c : Dev nD) (f) : (pt c yM f : sProp 𝕄) = (yM.view.loc (c : Thread nD τ) ↦{fullShare} f) := by
  unfold pt; rw [show yM.view.set = Finset.univ from View.set_whole _]
/-- A whole share of the weights is two half shares. -/
theorem w_halves (c : Dev nD) (f) : (wM.view.loc (c : Thread nD τ) ↦{fullShare} f : sProp 𝕄)
    ⊣⊢ iprop((wM.view.loc (c : Thread nD τ) ↦{fullShare.left} f) ∗ (wM.view.loc (c : Thread nD τ) ↦{fullShare.right} f)) :=
  pointsTo_share (PosShare.mem_left_op_right fullShare)

set_option maxHeartbeats 1000000 in
/-- The body at an inner point. -/
theorem sound_mid (c : Dev nD) (t : Fin cfg0.N) (ht0 : 0 < t.val) (ht : t.val < 16)
    (h1 : ¬ k0_cond1 (grid0.coords t) = 1#1) (h2 : k0_cond2 (grid0.coords t) = 1#1) (h3 : ¬ k0_cond3 (grid0.coords t) = 1#1) :
    bodyPre m c t ⊢ wp frame (wpE (defs₀ (F := F)) Variants.none c none) Set.univ (bodyAt0 t) (fun _ => bodyPost m c t) := by
  unfold bodyPre bodyPost bodyAt0
  rw [show (dats m 0 c).Φ t.succ = Phi m c (t.val + 1) from rfl, show (dats m 0 c).Φ t.castSucc = Phi m c t.val from rfl]
  unfold Phi Dat.owesAt Pipeline.owesWithin
  rw [show (dats m 0 c).owed t.castSucc = 0 from rfl, show (dats m 0 c).owed t.succ = 0 from rfl]
  simp only [before0_0, before0_1, before0_2, before0_3, after0_0, after0_1, after0_2, after0_3]
  unfold owns
  iintro ⟨⟨⟨⟨%fw, %hw, Hw⟩, ⟨%fs, Hs⟩, ⟨%fx, %hx, Hx⟩, ⟨%fy, Hy⟩⟩, Hg, ⟨Hq0, Hq1⟩, Hm⟩, ⟨%W, %hW, HW⟩,
    ⟨%d0, %f0, %e0, H0⟩, ⟨%d1, %f1, %e1, H1⟩, ⟨%d2, %f2, %e2, H2⟩, ⟨%d3, %f3, %e3, H3⟩,
    ⟨%Y4, %hY4, %f4, %e4, H4⟩, ⟨%Y5, %hY5, %f5, %e5, H5⟩, ⟨%Y6, %hY6, %f6, %e6, H6⟩, ⟨%Y7, %hY7, %f7, %e7, H7⟩, ⟨%Y8, %hY8, %f8, %e8, H8⟩⟩
  iapply ((runMid c (grid0.coords t) h1 h2 h3 _ _ _ _ _ _ _ _ _ _ _ _ _ _ _ _ _ _ f1 f2 f3 fw fx).2 f4 f5 f6 f7 f8 fy _)
  simp only [pt_ws, pt_xs, pt_y]
  isplitl [H1]; · iexact H1
  isplitl [H2]; · iexact H2
  isplitl [H3]; · iexact H3
  isplitl [Hw]; · iexact Hw
  isplitl [Hx]; · iexact Hx
  isplitl [H4]; · iexact H4
  isplitl [H5]; · iexact H5
  isplitl [H6]; · iexact H6
  isplitl [H7]; · iexact H7
  isplitl [H8]; · iexact H8
  isplitl [Hy]; · iexact Hy
  iintro ⟨H1, H2, H3, Hw, Hx, H4, H5, H6, H7, H8, ⟨%fy', Hy⟩⟩
  isplitl [Hw Hs Hx Hy Hg Hq0 Hq1 Hm]
  · isplitl [Hw Hs Hx Hy]
    · isplitl [Hw]
      · iexists _; isplitr
        swap; · iexact Hw
        ipureintro; exact fun _ => hw ht0
      isplitl [Hs]; · iexists _; iexact Hs
      isplitl [Hx]
      · iexists _; isplitr
        swap; · iexact Hx
        ipureintro; exact fun k hk _ => ⟨t, st0_3 t, f3, fx, by omega, e3, Or.inr ⟨h2, runMid_xs c _ h1 h2 h3 _ _ _ _ _ _ _ _ _ _ _ _ _ _ _ _ _ _ f1 f2 f3 fw fx⟩⟩
      iexists _; iexact Hy
    isplitl [Hg]; · iexact Hg
    isplitl [Hq0 Hq1]
    · isplitl [Hq0]; · iexact Hq0
      iexact Hq1
    iexact Hm
  isplitl [HW]
  · iexists _; isplitr
    swap; · iexact HW
    ipureintro; exact fun _ _ => Or.inl trivial
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists _; isplitr
    swap
    · iexists _; isplitr
      swap; · iexact H4
      ipureintro; exact rfl
    ipureintro; exact fun _ => ⟨t.val - 1, fw, fx, st0_4 t, st0_1 t, f1, by omega, hw ht0, hx _ (by omega) (by omega), e1, Or.inl ⟨h2, st0_3 t, f3, congrArg ((st0_4 t).view.read (Elt F)) (runMid_q c _ h1 h2 h3 _ _ _ _ _ _ _ _ _ _ _ _ _ _ _ _ _ _ f1 f2 f3 fw fx)⟩⟩
  isplitl [H5]
  · iexists _; isplitr
    swap
    · iexists _; isplitr
      swap; · iexact H5
      ipureintro; exact rfl
    ipureintro; exact fun _ => ⟨t.val - 1, fw, fx, st0_5 t, st0_2 t, f2, by omega, hw ht0, hx _ (by omega) (by omega), e2, Or.inl ⟨h2, st0_3 t, f3, congrArg ((st0_5 t).view.read (Elt F)) (runMid_c c _ h1 h2 h3 _ _ _ _ _ _ _ _ _ _ _ _ _ _ _ _ _ _ f1 f2 f3 fw fx)⟩⟩
  isplitl [H6]
  · iexists _; isplitr
    swap
    · iexists _; isplitr
      swap; · iexact H6
      ipureintro; exact rfl
    ipureintro; exact fun _ => ⟨t.val - 1, fw, fx, st0_6 t, by omega, hw ht0, hx _ (by omega) (by omega), Or.inl ⟨h2, st0_3 t, f3, congrArg ((st0_6 t).view.read (Elt F)) (runMid_k c _ h1 h2 h3 _ _ _ _ _ _ _ _ _ _ _ _ _ _ _ _ _ _ f1 f2 f3 fw fx)⟩⟩
  isplitl [H7]
  · iexists _; isplitr
    swap
    · iexists _; isplitr
      swap; · iexact H7
      ipureintro; exact rfl
    ipureintro; exact ⟨t, st0_3 t, f3, st0_7 t, by omega, e3, Or.inr (congrArg ((st0_7 t).view.read (Elt F)) (runMid_codes c _ h1 h2 h3 _ _ _ _ _ _ _ _ _ _ _ _ _ _ _ _ _ _ f1 f2 f3 fw fx))⟩
  iexists _; isplitr
  swap
  · iexists _; isplitr
    swap; · iexact H8
    ipureintro; exact rfl
  ipureintro; exact ⟨t, st0_3 t, f3, st0_8 t, by omega, e3, Or.inr (congrArg ((st0_8 t).view.read (Elt F)) (runMid_scales c _ h1 h2 h3 _ _ _ _ _ _ _ _ _ _ _ _ _ _ _ _ _ _ f1 f2 f3 fw fx))⟩
set_option maxHeartbeats 1000000 in
/-- The body at the last point. -/
theorem sound_last (c : Dev nD) (t : Fin cfg0.N) (ht : t.val = 16)
    (h1 : ¬ k0_cond1 (grid0.coords t) = 1#1) (h2 : ¬ k0_cond2 (grid0.coords t) = 1#1) (h3 : k0_cond3 (grid0.coords t) = 1#1) :
    bodyPre m c t ⊢ wp frame (wpE (defs₀ (F := F)) Variants.none c none) Set.univ (bodyAt0 t) (fun _ => bodyPost m c t) := by
  unfold bodyPre bodyPost bodyAt0
  rw [show (dats m 0 c).Φ t.succ = Phi m c (t.val + 1) from rfl, show (dats m 0 c).Φ t.castSucc = Phi m c t.val from rfl]
  unfold Phi Dat.owesAt Pipeline.owesWithin
  rw [show (dats m 0 c).owed t.castSucc = 0 from rfl, show (dats m 0 c).owed t.succ = 0 from rfl]
  simp only [before0_0, before0_1, before0_2, before0_3, after0_0, after0_1, after0_2, after0_3]
  unfold owns
  iintro ⟨⟨⟨⟨%fw, %hw, Hw⟩, ⟨%fs, Hs⟩, ⟨%fx, %hx, Hx⟩, ⟨%fy, Hy⟩⟩, Hg, ⟨Hq0, Hq1⟩, Hm⟩, ⟨%W, %hW, HW⟩,
    ⟨%d0, %f0, %e0, H0⟩, ⟨%d1, %f1, %e1, H1⟩, ⟨%d2, %f2, %e2, H2⟩, ⟨%d3, %f3, %e3, H3⟩,
    ⟨%Y4, %hY4, %f4, %e4, H4⟩, ⟨%Y5, %hY5, %f5, %e5, H5⟩, ⟨%Y6, %hY6, %f6, %e6, H6⟩, ⟨%Y7, %hY7, %f7, %e7, H7⟩, ⟨%Y8, %hY8, %f8, %e8, H8⟩⟩
  iapply ((runLast c (grid0.coords t) h1 h2 h3 _ _ _ _ _ _ _ _ _ _ _ _ _ _ _ _ _ _ f1 f2 fw fx).2 f4 f5 f6 fy _)
  simp only [pt_ws, pt_xs, pt_y]
  isplitl [H1]; · iexact H1
  isplitl [H2]; · iexact H2
  isplitl [Hw]; · iexact Hw
  isplitl [Hx]; · iexact Hx
  isplitl [H4]; · iexact H4
  isplitl [H5]; · iexact H5
  isplitl [H6]; · iexact H6
  isplitl [Hy]; · iexact Hy
  iintro ⟨H1, H2, Hw, Hx, H4, H5, H6, ⟨%fy', Hy⟩⟩
  isplitl [Hw Hs Hx Hy Hg Hq0 Hq1 Hm]
  · isplitl [Hw Hs Hx Hy]
    · isplitl [Hw]
      · iexists _; isplitr
        swap; · iexact Hw
        ipureintro; exact fun _ => hw (by omega)
      isplitl [Hs]; · iexists _; iexact Hs
      isplitl [Hx]
      · iexists _; isplitr
        swap; · iexact Hx
        ipureintro; exact fun k hk h => absurd h (by omega)
      iexists _; iexact Hy
    isplitl [Hg]; · iexact Hg
    isplitl [Hq0 Hq1]
    · isplitl [Hq0]; · iexact Hq0
      iexact Hq1
    iexact Hm
  isplitl [HW]
  · iexists _; isplitr
    swap; · iexact HW
    ipureintro; exact fun _ _ => Or.inl trivial
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists _; isplitr
    swap
    · iexists _; isplitr
      swap; · iexact H4
      ipureintro; exact rfl
    ipureintro; exact fun _ => ⟨t.val - 1, fw, fx, st0_4 t, st0_1 t, f1, by omega, hw (by omega), hx _ (by omega) (by omega), e1, Or.inr ⟨h3, congrArg ((st0_4 t).view.read (Elt F)) (runLast_q c _ h1 h2 h3 _ _ _ _ _ _ _ _ _ _ _ _ _ _ _ _ _ _ f1 f2 fw fx)⟩⟩
  isplitl [H5]
  · iexists _; isplitr
    swap
    · iexists _; isplitr
      swap; · iexact H5
      ipureintro; exact rfl
    ipureintro; exact fun _ => ⟨t.val - 1, fw, fx, st0_5 t, st0_2 t, f2, by omega, hw (by omega), hx _ (by omega) (by omega), e2, Or.inr ⟨h3, congrArg ((st0_5 t).view.read (Elt F)) (runLast_c c _ h1 h2 h3 _ _ _ _ _ _ _ _ _ _ _ _ _ _ _ _ _ _ f1 f2 fw fx)⟩⟩
  isplitl [H6]
  · iexists _; isplitr
    swap
    · iexists _; isplitr
      swap; · iexact H6
      ipureintro; exact rfl
    ipureintro; exact fun _ => ⟨t.val - 1, fw, fx, st0_6 t, by omega, hw (by omega), hx _ (by omega) (by omega), Or.inr ⟨h3, congrArg ((st0_6 t).view.read (Elt F)) (runLast_k c _ h1 h2 h3 _ _ _ _ _ _ _ _ _ _ _ _ _ _ _ _ _ _ f1 f2 fw fx)⟩⟩
  isplitl [H7]
  · iexists _; isplitr
    swap
    · iexists _; isplitr
      swap; · iexact H7
      ipureintro; exact e7
    ipureintro; exact finds7 m c t ht Y7 hY7
  iexists _; isplitr
  swap
  · iexists _; isplitr
    swap; · iexact H8
    ipureintro; exact e8
  ipureintro; exact finds8 m c t ht Y8 hY8
set_option maxHeartbeats 1000000 in
/-- The body at the first point. -/
theorem sound_first (c : Dev nD) (t : Fin cfg0.N) (ht : t.val = 0)
    (h1 : k0_cond1 (grid0.coords t) = 1#1) (h2 : ¬ k0_cond2 (grid0.coords t) = 1#1) (h3 : ¬ k0_cond3 (grid0.coords t) = 1#1) :
    bodyPre m c t ⊢ wp frame (wpE (defs₀ (F := F)) Variants.none c none) Set.univ (bodyAt0 t) (fun _ => bodyPost m c t) := by
  unfold bodyPre bodyPost bodyAt0
  rw [show (dats m 0 c).Φ t.succ = Phi m c (t.val + 1) from rfl, show (dats m 0 c).Φ t.castSucc = Phi m c t.val from rfl]
  unfold Phi Dat.owesAt Pipeline.owesWithin
  rw [show (dats m 0 c).owed t.castSucc = 0 from rfl, show (dats m 0 c).owed t.succ = 0 from rfl]
  simp only [before0_0, before0_1, before0_2, before0_3, after0_0, after0_1, after0_2, after0_3]
  unfold owns
  iintro ⟨⟨⟨⟨%fw, %hw, Hw⟩, ⟨%fs, Hs⟩, ⟨%fx, %hx, Hx⟩, ⟨%fy, Hy⟩⟩, Hg, ⟨Hq0, Hq1⟩, Hm⟩, ⟨%W, %hW, HW⟩,
    ⟨%d0, %f0, %e0, H0⟩, ⟨%d1, %f1, %e1, H1⟩, ⟨%d2, %f2, %e2, H2⟩, ⟨%d3, %f3, %e3, H3⟩,
    ⟨%Y4, %hY4, %f4, %e4, H4⟩, ⟨%Y5, %hY5, %f5, %e5, H5⟩, ⟨%Y6, %hY6, %f6, %e6, H6⟩, ⟨%Y7, %hY7, %f7, %e7, H7⟩, ⟨%Y8, %hY8, %f8, %e8, H8⟩⟩
  ihave Hmm := ((w_halves c (V m c main_arg1)).1) $$ Hm
  icases Hmm with ⟨Hm, Hm'⟩
  iapply ((runFirst c (grid0.coords t) h1 h2 h3 _ _ _ _ _ _ _ _ _ _ _ _ _ _ _ _ _ _ (V m c main_arg1) f0 f3).2 f7 f8 fw fs fx W _)
  simp only [pt_ws, pt_xs]
  isplitl [Hm]; · iexact Hm
  isplitl [Hm']; · iexact Hm'
  isplitl [H0]; · iexact H0
  isplitl [H3]; · iexact H3
  isplitl [H7]; · iexact H7
  isplitl [H8]; · iexact H8
  isplitl [Hw]; · iexact Hw
  isplitl [Hs]; · iexact Hs
  isplitl [Hx]; · iexact Hx
  isplitl [Hq0]; · iexact Hq0
  isplitl [Hq1]; · iexact Hq1
  isplitl [HW]; · iexact HW
  iintro ⟨Hm, Hm', H0, H3, H7, H8, Hw, ⟨%fs', Hs⟩, Hx, Hq0, Hq1, ⟨%W', HW⟩⟩
  ihave Hm := ((w_halves c (V m c main_arg1)).2) $$ [Hm Hm']
  · isplitl [Hm]; · iexact Hm
    iexact Hm'
  isplitl [Hw Hs Hx Hy Hg Hq0 Hq1 Hm]
  · isplitl [Hw Hs Hx Hy]
    · isplitl [Hw]
      · iexists _; isplitr
        swap; · iexact Hw
        ipureintro; exact fun _ => ⟨st0_0 t, f0, t, fs, e0, runFirst_ws c _ h1 h2 h3 _ _ _ _ _ _ _ _ _ _ _ _ _ _ _ _ _ _ (V m c main_arg1) f0 f3 fs⟩
      isplitl [Hs]; · iexists _; iexact Hs
      isplitl [Hx]
      · iexists _; isplitr
        swap; · iexact Hx
        ipureintro; exact fun k hk _ => ⟨t, st0_3 t, f3, fx, by omega, e3, Or.inl ⟨by omega, runFirst_xs c _ h1 h2 h3 _ _ _ _ _ _ _ _ _ _ _ _ _ _ _ _ _ _ (V m c main_arg1) f0 f3 fx⟩⟩
      iexists _; iexact Hy
    isplitl [Hg]; · iexact Hg
    isplitl [Hq0 Hq1]
    · isplitl [Hq0]; · iexact Hq0
      iexact Hq1
    iexact Hm
  isplitl [HW]
  · iexists _; isplitr
    swap; · iexact HW
    ipureintro; exact fun _ _ => Or.inl trivial
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists _; isplitr
    swap
    · iexists _; isplitr
      swap; · iexact H4
      ipureintro; exact e4
    ipureintro; exact fun h => absurd ht h
  isplitl [H5]
  · iexists _; isplitr
    swap
    · iexists _; isplitr
      swap; · iexact H5
      ipureintro; exact e5
    ipureintro; exact fun h => absurd ht h
  isplitl [H6]
  · iexists _; isplitr
    swap
    · iexists _; isplitr
      swap; · iexact H6
      ipureintro; exact e6
    ipureintro; exact fun h => absurd ht h
  isplitl [H7]
  · iexists _; isplitr
    swap
    · iexists _; isplitr
      swap; · iexact H7
      ipureintro; exact rfl
    ipureintro; exact ⟨t, st0_3 t, f3, st0_7 t, by omega, e3, Or.inl (congrArg ((st0_7 t).view.read (Elt F)) (runFirst_codes c _ h1 h2 h3 _ _ _ _ _ _ _ _ _ _ _ _ _ _ _ _ _ _ (V m c main_arg1) f0 f3))⟩
  iexists _; isplitr
  swap
  · iexists _; isplitr
    swap; · iexact H8
    ipureintro; exact rfl
  ipureintro; exact ⟨t, st0_3 t, f3, st0_8 t, by omega, e3, Or.inl (congrArg ((st0_8 t).view.read (Elt F)) (runFirst_scales c _ h1 h2 h3 _ _ _ _ _ _ _ _ _ _ _ _ _ _ _ _ _ _ (V m c main_arg1) f0 f3))⟩

/-- The body at any point. -/
theorem sound_body (c : Dev nD) (t : Fin cfg0.N) :
    bodyPre m c t ⊢ wp frame (wpE (defs₀ (F := F)) Variants.none c none) Set.univ (bodyAt0 t) (fun _ => bodyPost m c t) := by
  rcases cond_cases t with ⟨ht, h1, h2, h3⟩ | ⟨ht0, ht, h1, h2, h3⟩ | ⟨ht, h1, h2, h3⟩
  · exact sound_first m c t ht h1 h2 h3
  · exact sound_mid m c t ht0 ht h1 h2 h3
  · exact sound_last m c t ht h1 h2 h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ held (Rl m c) := fun t => by
  rw [bigSep_W0, bigSep_W0, defs₀_row]
  exact triple_restated (sound_body m c t) rfl .rfl fun _ => .rfl

/-! ## The run and the frame -/

set_option maxHeartbeats 800000 in
/-- The host statements before the region leave the buffers at `V`. -/
theorem hmain' : Pipeline.HMain (Ix := Unit) (Name := ℕ) (U := Pipeline.UD sig nD τ) (Lvl := ℕ) cfgs (0 : Fin 1) (defs₀ (F := F)) Variants.none m (main (F := F)) (V m) :=
  Pipeline.hmain_prefix cfgs 0 defs₀ Variants.none m main hostOps0 hostOps0_sub hostOps0_fresh main_chain

set_option backward.isDefEq.respectTransparency.types false in
/-- The run: the arrays at the end are what the points' results make them, the rest is unchanged, and every counter is at zero. -/
theorem run_main : θ_run defs (onTc (τ := τ) (main (F := F))) (s₀ m ρ) (fun r => RDat.FramePost cfg0 (rdat m) (V m) r ∧ r.2.sem = fun _ => 0) :=
  Pipeline.RDat.θ_run_frame_dma (Q' := _) cfgs (0 : Fin 1) launch0 osem0 defs₀ Variants.none (rdat m) ownSemFacts0 H0 H0_sub m ρ main
    (hbody := fun c => (body_obligation m c).toRRel) (hshare := fun c w => (dats m 0 c).share_full (fun _ => rfl) w)
    (howed := fun _ _ => rfl) (V := V m) (hmain := hmain' m) (hA := A_eq m)
    (hin := fun c => Phi_in m c) (hout := fun c => Phi_out m c _)

/-- The frame: the arguments end as they began, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 0 rfl).trans ((A_eq m c 0).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Kernel.Hand

end
-- ==== Proof.KernelIdeal.Ops.lean ====
/- The operands of the kernel body, and how the proof names a buffer held whole. -/
module

public import proofs.«01_k».proof.Proof.Gen.Kernel
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The contents of memref `M`'s buffer on core `c`. -/
abbrev Bf (c : Dev nD) {sp : Space} {S : Shape} {e : EltTy} (M : Memref sig .tc sp S e) : Type :=
  Buf (Elt F) (M.view.loc (c : Thread nD τ))
/-- Memref `M`'s elements on core `c`, held at the contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The weight array in HBM, and the scratch buffers. -/
abbrev wM : Memref sig .tc .hbm S2112x5120 .fp8e4m3 := Memref.whole main_arg1
abbrev wsM : Memref sig .tc .vmem S2112x5120 .bf16 := Memref.whole cc0_scratch0
abbrev stM : Memref sig .tc .vmem S2x256x5120 .fp8e4m3 := Memref.whole cc0_scratch1
abbrev xsM : Memref sig .tc .vmem S2x384x5120 .bf16 := Memref.whole cc0_scratch2
abbrev yM : Memref sig .tc .vmem S384x1536 .f32 := Memref.whole cc0_scratch3

/-! ## The staging scratch's slots: a point quantises into the slot of its parity and projects from the other -/

theorem off2_eq (i : grid0.Coords) : k0_off2 i = ![(i 0).val % 2, 0, 0] := by
  unfold k0_off2; generalize i 0 = x; revert x; decide +kernel
theorem off1_eq (i : grid0.Coords) : k0_off1 i = ![1 - (i 0).val % 2, 0, 0] := by
  unfold k0_off1; generalize i 0 = x; revert x; decide +kernel
theorem off_of (i : grid0.Coords) {o : Fin 3 → ℕ} {g : ℕ} (h : o = ![k0_off2 i 0, 0, g]) : o = ![(i 0).val % 2, 0, g] := by
  rw [h, off2_eq]; rfl

instance (i : grid0.Coords) : ClosedOff (k0_off1 i) := ⟨![1 - (i 0).val % 2, 0, 0], off1_eq i⟩
instance (i : grid0.Coords) : ClosedOff (k0_off2 i) := ⟨![(i 0).val % 2, 0, 0], off_of i rfl⟩
instance (i : grid0.Coords) : ClosedOff (k0_off3 i) := ⟨![(i 0).val % 2, 0, 128], off_of i rfl⟩
instance (i : grid0.Coords) : ClosedOff (k0_off4 i) := ⟨![(i 0).val % 2, 0, 256], off_of i rfl⟩
instance (i : grid0.Coords) : ClosedOff (k0_off5 i) := ⟨![(i 0).val % 2, 0, 384], off_of i rfl⟩
instance (i : grid0.Coords) : ClosedOff (k0_off6 i) := ⟨![(i 0).val % 2, 0, 512], off_of i rfl⟩
instance (i : grid0.Coords) : ClosedOff (k0_off7 i) := ⟨![(i 0).val % 2, 0, 640], off_of i rfl⟩
instance (i : grid0.Coords) : ClosedOff (k0_off8 i) := ⟨![(i 0).val % 2, 0, 768], off_of i rfl⟩
instance (i : grid0.Coords) : ClosedOff (k0_off9 i) := ⟨![(i 0).val % 2, 0, 896], off_of i rfl⟩
instance (i : grid0.Coords) : ClosedOff (k0_off10 i) := ⟨![(i 0).val % 2, 0, 1024], off_of i rfl⟩
instance (i : grid0.Coords) : ClosedOff (k0_off11 i) := ⟨![(i 0).val % 2, 0, 1152], off_of i rfl⟩
instance (i : grid0.Coords) : ClosedOff (k0_off12 i) := ⟨![(i 0).val % 2, 0, 1280], off_of i rfl⟩
instance (i : grid0.Coords) : ClosedOff (k0_off13 i) := ⟨![(i 0).val % 2, 0, 1408], off_of i rfl⟩
instance (i : grid0.Coords) : ClosedOff (k0_off14 i) := ⟨![(i 0).val % 2, 0, 1536], off_of i rfl⟩
instance (i : grid0.Coords) : ClosedOff (k0_off15 i) := ⟨![(i 0).val % 2, 0, 1664], off_of i rfl⟩
instance (i : grid0.Coords) : ClosedOff (k0_off16 i) := ⟨![(i 0).val % 2, 0, 1792], off_of i rfl⟩
instance (i : grid0.Coords) : ClosedOff (k0_off17 i) := ⟨![(i 0).val % 2, 0, 1920], off_of i rfl⟩
instance (i : grid0.Coords) : ClosedOff (k0_off18 i) := ⟨![(i 0).val % 2, 0, 2048], off_of i rfl⟩
instance (i : grid0.Coords) : ClosedOff (k0_off19 i) := ⟨![(i 0).val % 2, 0, 2176], off_of i rfl⟩
instance (i : grid0.Coords) : ClosedOff (k0_off20 i) := ⟨![(i 0).val % 2, 0, 2304], off_of i rfl⟩
instance (i : grid0.Coords) : ClosedOff (k0_off21 i) := ⟨![(i 0).val % 2, 0, 2432], off_of i rfl⟩
instance (i : grid0.Coords) : ClosedOff (k0_off22 i) := ⟨![(i 0).val % 2, 0, 2560], off_of i rfl⟩
instance (i : grid0.Coords) : ClosedOff (k0_off23 i) := ⟨![(i 0).val % 2, 0, 2688], off_of i rfl⟩
instance (i : grid0.Coords) : ClosedOff (k0_off24 i) := ⟨![(i 0).val % 2, 0, 2816], off_of i rfl⟩
instance (i : grid0.Coords) : ClosedOff (k0_off25 i) := ⟨![(i 0).val % 2, 0, 2944], off_of i rfl⟩
instance (i : grid0.Coords) : ClosedOff (k0_off26 i) := ⟨![(i 0).val % 2, 0, 3072], off_of i rfl⟩
instance (i : grid0.Coords) : ClosedOff (k0_off27 i) := ⟨![(i 0).val % 2, 0, 3200], off_of i rfl⟩
instance (i : grid0.Coords) : ClosedOff (k0_off28 i) := ⟨![(i 0).val % 2, 0, 3328], off_of i rfl⟩
instance (i : grid0.Coords) : ClosedOff (k0_off29 i) := ⟨![(i 0).val % 2, 0, 3456], off_of i rfl⟩
instance (i : grid0.Coords) : ClosedOff (k0_off30 i) := ⟨![(i 0).val % 2, 0, 3584], off_of i rfl⟩
instance (i : grid0.Coords) : ClosedOff (k0_off31 i) := ⟨![(i 0).val % 2, 0, 3712], off_of i rfl⟩
instance (i : grid0.Coords) : ClosedOff (k0_off32 i) := ⟨![(i 0).val % 2, 0, 3840], off_of i rfl⟩
instance (i : grid0.Coords) : ClosedOff (k0_off33 i) := ⟨![(i 0).val % 2, 0, 3968], off_of i rfl⟩
instance (i : grid0.Coords) : ClosedOff (k0_off34 i) := ⟨![(i 0).val % 2, 0, 4096], off_of i rfl⟩
instance (i : grid0.Coords) : ClosedOff (k0_off35 i) := ⟨![(i 0).val % 2, 0, 4224], off_of i rfl⟩
instance (i : grid0.Coords) : ClosedOff (k0_off36 i) := ⟨![(i 0).val % 2, 0, 4352], off_of i rfl⟩
instance (i : grid0.Coords) : ClosedOff (k0_off37 i) := ⟨![(i 0).val % 2, 0, 4480], off_of i rfl⟩
instance (i : grid0.Coords) : ClosedOff (k0_off38 i) := ⟨![(i 0).val % 2, 0, 4608], off_of i rfl⟩
instance (i : grid0.Coords) : ClosedOff (k0_off39 i) := ⟨![(i 0).val % 2, 0, 4736], off_of i rfl⟩
instance (i : grid0.Coords) : ClosedOff (k0_off40 i) := ⟨![(i 0).val % 2, 0, 4864], off_of i rfl⟩
instance (i : grid0.Coords) : ClosedOff (k0_off41 i) := ⟨![(i 0).val % 2, 0, 4992], off_of i rfl⟩
instance (i : grid0.Coords) : ClosedOff (k0_off42 i) := ⟨![1 - (i 0).val % 2, 0, 0], off1_eq i⟩

end Cert.KernelIdeal.Hand

end
-- ==== Proof.KernelIdeal.RunFirst.lean ====
/- The kernel body at the first grid point: it dequantises the weights, fetched by transfers of its own, and quantises the first block. -/
module

public import proofs.«01_k».proof.Proof.KernelIdeal.Ops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

set_option sl_exec.dmaWindow true in
/-- At the first point the body, on the weights in HBM, their scales and the first block, leaves in the codes' and
    the scales' buffers, in the weight scratch and in the staging scratch, what the run finds. -/
noncomputable def runFirst (c : Dev nD) (i : grid0.Coords) (h1 : k0_cond1 i = 1#1) (h2 : ¬ k0_cond2 i = 1#1) (h3 : ¬ k0_cond3 i = 1#1)
    (arg2 : Memref sig .tc .smem S17x40 .f32) (harg2 : arg2.IsWhole) (arg3 : Memref sig .tc .vmem S1x1536 .bf16) (harg3 : arg3.IsWhole)
    (arg4 : Memref sig .tc .vmem S1x512 .bf16) (harg4 : arg4.IsWhole) (arg5 : Memref sig .tc .vmem S384x5120 .bf16) (harg5 : arg5.IsWhole)
    (arg6 : Memref sig .tc .vmem S384x1536 .bf16) (harg6 : arg6.IsWhole) (arg7 : Memref sig .tc .vmem S384x512 .bf16) (harg7 : arg7.IsWhole)
    (arg8 : Memref sig .tc .vmem S384x64 .bf16) (harg8 : arg8.IsWhole) (arg9 : Memref sig .tc .vmem S384x5120 .fp8e4m3) (harg9 : arg9.IsWhole)
    (arg10 : Memref sig .tc .vmem S384x40 .f32) (harg10 : arg10.IsWhole)
    (f1 : Bf (F := F) c wM) (f2 : Bf (F := F) c arg2) (f5 : Bf (F := F) c arg5) :
    { W : Bf (F := F) c arg9 × Bf (F := F) c arg10 × (Bf (F := F) c stM → Bf (F := F) c wsM) × (Bf (F := F) c xsM → Bf (F := F) c xsM) //
      ∀ (g9 : Bf (F := F) c arg9) (g10 : Bf (F := F) c arg10) (gw : Bf (F := F) c wsM) (gs : Bf (F := F) c stM) (gx : Bf (F := F) c xsM)
        (W₀ : Waits sig Unit) (K : PUnit → sProp 𝕄),
        iprop((wM.view.loc (c : Thread nD τ) ↦{fullShare.left} f1) ∗ (wM.view.loc (c : Thread nD τ) ↦{fullShare.right} f1) ∗ pt c arg2 f2 ∗ pt c arg5 f5 ∗ pt c arg9 g9 ∗ pt c arg10 g10
            ∗ pt c wsM gw ∗ (stM.view.loc (c : Thread nD τ) ↦{fullShare} gs) ∗ pt c xsM gx
            ∗ semVal ((c : Thread nD τ), SemLoc.dma 15) 0 ∗ semVal ((c : Thread nD τ), SemLoc.dma 16) 0
            ∗ owes (c : Thread nD τ) 0 W₀
            ∗ (iprop((wM.view.loc (c : Thread nD τ) ↦{fullShare.left} f1) ∗ (wM.view.loc (c : Thread nD τ) ↦{fullShare.right} f1) ∗ pt c arg2 f2 ∗ pt c arg5 f5 ∗ pt c arg9 W.1 ∗ pt c arg10 W.2.1
                ∗ pt c wsM (W.2.2.1 gs) ∗ (∃ f, stM.view.loc (c : Thread nD τ) ↦{fullShare} f) ∗ pt c xsM (W.2.2.2 gx)
                ∗ semVal ((c : Thread nD τ), SemLoc.dma 15) 0 ∗ semVal ((c : Thread nD τ), SemLoc.dma 16) 0
                ∗ (∃ W', owes (c : Thread nD τ) 0 W')) -∗ K ⟨⟩))
          ⊢ wp frame (wpE (defs₀ (F := F)) Variants.none c none) Set.univ
              (cc0_mla_down_proj i wM (Memref.isWhole_whole _) arg2 harg2 arg3 harg3 arg4 harg4 arg5 harg5 arg6 harg6 arg7 harg7 arg8 harg8
                arg9 harg9 arg10 harg10 wsM (Memref.isWhole_whole _) stM (Memref.isWhole_whole _) xsM (Memref.isWhole_whole _)
                yM (Memref.isWhole_whole _) cc0_scratch4) K } := by
  refine ⟨⟨?_, ?_, ?_, ?_⟩, fun g9 g10 gw gs gx W₀ K => ?run⟩
  case run =>
    iintro ⟨H1, H1', H2, H5, H9, H10, Hw, Hs, Hx, Hq0, Hq1, HW, Hk⟩
    sl_exec_parts!
    sl_step
    iapply Hk
    isplitl [H1]; · iexact H1
    isplitl [H1']; · iexact H1'
    isplitl [H2]; · iexact H2
    isplitl [H5]; · iexact H5
    isplitl [H9]; · iexact H9
    isplitl [H10]; · iexact H10
    isplitl [Hw]; · iexact Hw
    isplitl [Hs]; · iexists _; iexact Hs
    isplitl [Hx]; · iexact Hx
    isplitl [Hq0]; · iexact Hq0
    isplitl [Hq1]; · iexact Hq1
    iexists _; iexact HW

end Cert.KernelIdeal.Hand

end
-- ==== Proof.KernelIdeal.RunMid.lean ====
/- The kernel body at an inner grid point: it projects and normalises the previous block while it quantises this one. -/
module

public import proofs.«01_k».proof.Proof.KernelIdeal.Ops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

set_option sl_exec.closedPieces true in
/-- At an inner point the body, on the two gains, the dequantised weights, the staged blocks and this point's
    block, leaves in the five results' buffers, and in the staging scratch, what the run finds. -/
noncomputable def runMid (c : Dev nD) (i : grid0.Coords) (h1 : ¬ k0_cond1 i = 1#1) (h2 : k0_cond2 i = 1#1) (h3 : ¬ k0_cond3 i = 1#1)
    (arg2 : Memref sig .tc .smem S17x40 .f32) (harg2 : arg2.IsWhole) (arg3 : Memref sig .tc .vmem S1x1536 .bf16) (harg3 : arg3.IsWhole)
    (arg4 : Memref sig .tc .vmem S1x512 .bf16) (harg4 : arg4.IsWhole) (arg5 : Memref sig .tc .vmem S384x5120 .bf16) (harg5 : arg5.IsWhole)
    (arg6 : Memref sig .tc .vmem S384x1536 .bf16) (harg6 : arg6.IsWhole) (arg7 : Memref sig .tc .vmem S384x512 .bf16) (harg7 : arg7.IsWhole)
    (arg8 : Memref sig .tc .vmem S384x64 .bf16) (harg8 : arg8.IsWhole) (arg9 : Memref sig .tc .vmem S384x5120 .fp8e4m3) (harg9 : arg9.IsWhole)
    (arg10 : Memref sig .tc .vmem S384x40 .f32) (harg10 : arg10.IsWhole)
    (f3 : Bf (F := F) c arg3) (f4 : Bf (F := F) c arg4) (f5 : Bf (F := F) c arg5) (fw : Bf (F := F) c wsM) (fx : Bf (F := F) c xsM) :
    { W : Bf (F := F) c arg6 × Bf (F := F) c arg7 × Bf (F := F) c arg8 × Bf (F := F) c arg9 × Bf (F := F) c arg10 × Bf (F := F) c xsM //
      ∀ (g6 : Bf (F := F) c arg6) (g7 : Bf (F := F) c arg7) (g8 : Bf (F := F) c arg8) (g9 : Bf (F := F) c arg9) (g10 : Bf (F := F) c arg10)
        (gy : Bf (F := F) c yM) (K : PUnit → sProp 𝕄),
        iprop(pt c arg3 f3 ∗ pt c arg4 f4 ∗ pt c arg5 f5 ∗ pt c wsM fw ∗ pt c xsM fx
            ∗ pt c arg6 g6 ∗ pt c arg7 g7 ∗ pt c arg8 g8 ∗ pt c arg9 g9 ∗ pt c arg10 g10 ∗ pt c yM gy
            ∗ (iprop(pt c arg3 f3 ∗ pt c arg4 f4 ∗ pt c arg5 f5 ∗ pt c wsM fw ∗ pt c xsM W.2.2.2.2.2
                ∗ pt c arg6 W.1 ∗ pt c arg7 W.2.1 ∗ pt c arg8 W.2.2.1 ∗ pt c arg9 W.2.2.2.1 ∗ pt c arg10 W.2.2.2.2.1
                ∗ (∃ f, pt c yM f)) -∗ K ⟨⟩))
          ⊢ wp frame (wpE (defs₀ (F := F)) Variants.none c none) Set.univ
              (cc0_mla_down_proj i wM (Memref.isWhole_whole _) arg2 harg2 arg3 harg3 arg4 harg4 arg5 harg5 arg6 harg6 arg7 harg7 arg8 harg8
                arg9 harg9 arg10 harg10 wsM (Memref.isWhole_whole _) stM (Memref.isWhole_whole _) xsM (Memref.isWhole_whole _)
                yM (Memref.isWhole_whole _) cc0_scratch4) K } := by
  refine ⟨⟨?_, ?_, ?_, ?_, ?_, ?_⟩, fun g6 g7 g8 g9 g10 gy K => ?run⟩
  case run =>
    iintro ⟨H3, H4, H5, Hw, Hx, H6, H7, H8, H9, H10, Hy, Hk⟩
    sl_exec_parts!
    sl_step
    iapply Hk
    isplitl [H3]; · iexact H3
    isplitl [H4]; · iexact H4
    isplitl [H5]; · iexact H5
    isplitl [Hw]; · iexact Hw
    isplitl [Hx]; · iexact Hx
    isplitl [H6]; · iexact H6
    isplitl [H7]; · iexact H7
    isplitl [H8]; · iexact H8
    isplitl [H9]; · iexact H9
    isplitl [H10]; · iexact H10
    iexists _; iexact Hy

end Cert.KernelIdeal.Hand

end
-- ==== Proof.KernelIdeal.RunLast.lean ====
/- The kernel body at the last grid point: it projects the last block and normalises it. -/
module

public import proofs.«01_k».proof.Proof.KernelIdeal.Ops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- At the last point the body, on the two gains, the dequantised weights and the staged block, leaves in the
    three results' buffers the pieces the run finds. -/
noncomputable def runLast (c : Dev nD) (i : grid0.Coords) (h1 : ¬ k0_cond1 i = 1#1) (h2 : ¬ k0_cond2 i = 1#1) (h3 : k0_cond3 i = 1#1)
    (arg2 : Memref sig .tc .smem S17x40 .f32) (harg2 : arg2.IsWhole) (arg3 : Memref sig .tc .vmem S1x1536 .bf16) (harg3 : arg3.IsWhole)
    (arg4 : Memref sig .tc .vmem S1x512 .bf16) (harg4 : arg4.IsWhole) (arg5 : Memref sig .tc .vmem S384x5120 .bf16) (harg5 : arg5.IsWhole)
    (arg6 : Memref sig .tc .vmem S384x1536 .bf16) (harg6 : arg6.IsWhole) (arg7 : Memref sig .tc .vmem S384x512 .bf16) (harg7 : arg7.IsWhole)
    (arg8 : Memref sig .tc .vmem S384x64 .bf16) (harg8 : arg8.IsWhole) (arg9 : Memref sig .tc .vmem S384x5120 .fp8e4m3) (harg9 : arg9.IsWhole)
    (arg10 : Memref sig .tc .vmem S384x40 .f32) (harg10 : arg10.IsWhole)
    (f3 : Bf (F := F) c arg3) (f4 : Bf (F := F) c arg4) (fw : Bf (F := F) c wsM) (fx : Bf (F := F) c xsM) :
    { W : Bf (F := F) c arg6 × Bf (F := F) c arg7 × Bf (F := F) c arg8 //
      ∀ (g6 : Bf (F := F) c arg6) (g7 : Bf (F := F) c arg7) (g8 : Bf (F := F) c arg8) (gy : Bf (F := F) c yM) (K : PUnit → sProp 𝕄),
        iprop(pt c arg3 f3 ∗ pt c arg4 f4 ∗ pt c wsM fw ∗ pt c xsM fx
            ∗ pt c arg6 g6 ∗ pt c arg7 g7 ∗ pt c arg8 g8 ∗ pt c yM gy
            ∗ (iprop(pt c arg3 f3 ∗ pt c arg4 f4 ∗ pt c wsM fw ∗ pt c xsM fx
                ∗ pt c arg6 W.1 ∗ pt c arg7 W.2.1 ∗ pt c arg8 W.2.2 ∗ (∃ f, pt c yM f)) -∗ K ⟨⟩))
          ⊢ wp frame (wpE (defs₀ (F := F)) Variants.none c none) Set.univ
              (cc0_mla_down_proj i wM (Memref.isWhole_whole _) arg2 harg2 arg3 harg3 arg4 harg4 arg5 harg5 arg6 harg6 arg7 harg7 arg8 harg8
                arg9 harg9 arg10 harg10 wsM (Memref.isWhole_whole _) stM (Memref.isWhole_whole _) xsM (Memref.isWhole_whole _)
                yM (Memref.isWhole_whole _) cc0_scratch4) K } := by
  refine ⟨⟨?_, ?_, ?_⟩, fun g6 g7 g8 gy K => ?run⟩
  case run =>
    iintro ⟨H3, H4, Hw, Hx, H6, H7, H8, Hy, Hk⟩
    sl_exec_parts!
    sl_step
    iapply Hk
    isplitl [H3]; · iexact H3
    isplitl [H4]; · iexact H4
    isplitl [Hw]; · iexact Hw
    isplitl [Hx]; · iexact Hx
    isplitl [H6]; · iexact H6
    isplitl [H7]; · iexact H7
    isplitl [H8]; · iexact H8
    iexists _; iexact Hy

end Cert.KernelIdeal.Hand

end
-- ==== Proof.KernelIdeal.Frame.lean ====
/- The frame of the program: the launch, the body at each of the grid's points, and what each point leaves in the buffers. -/
module

public import proofs.«01_k».proof.Proof.Gen.KernelIdeal.Frame
public import proofs.«01_k».proof.Proof.KernelIdeal.RunFirst
public import proofs.«01_k».proof.Proof.KernelIdeal.RunMid
public import proofs.«01_k».proof.Proof.KernelIdeal.RunLast
public import Idealize.ShloMosaic.Lib.Pipeline.DatRel
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the buffers hold -/

/-- The weight scratch holds what the first point's run leaves there from the weights and their scales. -/
def WsIs (c : Dev nD) (fw : Bf (F := F) c wsM) : Prop :=
  ∃ (arg2 : Memref sig .tc .smem S17x40 .f32) (f2 : Bf (F := F) c arg2) (t : Fin cfg0.N) (gs : Bf (F := F) c stM),
    arg2.view.read (Elt F) f2 = iblk m c 0 t
    ∧ fw = wsM.view.writes (Elt F) wsM.view.junk (runFirst.sl.Hw_680 c arg2 (V m c main_arg1) f2 gs)
/-- The slot of the dequantised rows that point `n` fills holds what that point's run leaves there. -/
def XsIs (c : Dev nD) (n : ℕ) (fx : Bf (F := F) c xsM) : Prop :=
  ∃ (t : Fin cfg0.N) (arg5 : Memref sig .tc .vmem S384x5120 .bf16) (f5 : Bf (F := F) c arg5) (gx : Bf (F := F) c xsM),
    t.val = n ∧ arg5.view.read (Elt F) f5 = iblk m c 3 t
    ∧ ((n = 0 ∧ fx = xsM.view.writes (Elt F) gx (runFirst.sl.Hx_40 c arg5 f5))
      ∨ ∃ h2 : k0_cond2 (grid0.coords t) = 1#1, fx = xsM.view.writes (Elt F) gx (runMid.sl.Hx_40 c (grid0.coords t) h2 arg5 f5))
/-- The codes of block `n`: what the run of point `n` leaves in the codes' buffer. -/
def CodesIs (c : Dev nD) (n : ℕ) (X : S384x5120.Idx → Elt F .fp8e4m3) : Prop :=
  ∃ (t : Fin cfg0.N) (arg5 : Memref sig .tc .vmem S384x5120 .bf16) (f5 : Bf (F := F) c arg5) (arg9 : Memref sig .tc .vmem S384x5120 .fp8e4m3),
    t.val = n ∧ arg5.view.read (Elt F) f5 = iblk m c 3 t
    ∧ (X = arg9.view.read (Elt F) (arg9.view.writes (Elt F) arg9.view.junk (runFirst.sl.H9_40 c arg5 f5))
      ∨ X = arg9.view.read (Elt F) (arg9.view.writes (Elt F) arg9.view.junk (runMid.sl.H9_40 c arg5 f5)))
/-- The scales of block `n`: what the run of point `n` leaves in the scales' buffer. -/
def ScalesIs (c : Dev nD) (n : ℕ) (X : S384x40.Idx → Elt F .f32) : Prop :=
  ∃ (t : Fin cfg0.N) (arg5 : Memref sig .tc .vmem S384x5120 .bf16) (f5 : Bf (F := F) c arg5) (arg10 : Memref sig .tc .vmem S384x40 .f32),
    t.val = n ∧ arg5.view.read (Elt F) f5 = iblk m c 3 t
    ∧ (X = arg10.view.read (Elt F) (arg10.view.writes (Elt F) arg10.view.junk (runFirst.sl.H10_40 c arg5 f5))
      ∨ X = arg10.view.read (Elt F) (arg10.view.writes (Elt F) arg10.view.junk (runMid.sl.H10_40 c arg5 f5)))
/-- The query rows at point `t`: what the run there leaves in the result's buffer, from the weight scratch and the rows filled at the point before. -/
def QIs (c : Dev nD) (t : Fin cfg0.N) (X : S384x1536.Idx → Elt F .bf16) : Prop :=
  ∃ (n : ℕ) (fw : Bf (F := F) c wsM) (fx : Bf (F := F) c xsM) (arg6 : Memref sig .tc .vmem S384x1536 .bf16) (arg3 : Memref sig .tc .vmem S1x1536 .bf16) (f3 : Bf (F := F) c arg3),
    n + 1 = t.val ∧ WsIs m c fw ∧ XsIs m c n fx ∧ arg3.view.read (Elt F) f3 = iblk m c 1 t ∧
      ((∃ (h2 : k0_cond2 (grid0.coords t) = 1#1) (arg5 : Memref sig .tc .vmem S384x5120 .bf16) (f5 : Bf (F := F) c arg5),
          X = arg6.view.read (Elt F) (arg6.view.writes (Elt F) arg6.view.junk (runMid.sl.H6_1 c (grid0.coords t) h2 arg3 arg5 f3 f5 fw fx)))
      ∨ (∃ h3 : k0_cond3 (grid0.coords t) = 1#1,
          X = arg6.view.read (Elt F) (arg6.view.writes (Elt F) arg6.view.junk (runLast.sl.H6_1 c (grid0.coords t) h3 arg3 f3 fw fx))))
/-- The compressed rows at point `t`: what the run there leaves in the result's buffer, from the weight scratch and the rows filled at the point before. -/
def CIs (c : Dev nD) (t : Fin cfg0.N) (X : S384x512.Idx → Elt F .bf16) : Prop :=
  ∃ (n : ℕ) (fw : Bf (F := F) c wsM) (fx : Bf (F := F) c xsM) (arg7 : Memref sig .tc .vmem S384x512 .bf16) (arg4 : Memref sig .tc .vmem S1x512 .bf16) (f4 : Bf (F := F) c arg4),
    n + 1 = t.val ∧ WsIs m c fw ∧ XsIs m c n fx ∧ arg4.view.read (Elt F) f4 = iblk m c 2 t ∧
      ((∃ (h2 : k0_cond2 (grid0.coords t) = 1#1) (arg5 : Memref sig .tc .vmem S384x5120 .bf16) (f5 : Bf (F := F) c arg5),
          X = arg7.view.read (Elt F) (arg7.view.writes (Elt F) arg7.view.junk (runMid.sl.H7_1 c (grid0.coords t) h2 arg4 arg5 f4 f5 fw fx)))
      ∨ (∃ h3 : k0_cond3 (grid0.coords t) = 1#1,
          X = arg7.view.read (Elt F) (arg7.view.writes (Elt F) arg7.view.junk (runLast.sl.H7_1 c (grid0.coords t) h3 arg4 f4 fw fx))))
/-- The position rows at point `t`: what the run there leaves in the result's buffer, from the weight scratch and the rows filled at the point before. -/
def KIs (c : Dev nD) (t : Fin cfg0.N) (X : S384x64.Idx → Elt F .bf16) : Prop :=
  ∃ (n : ℕ) (fw : Bf (F := F) c wsM) (fx : Bf (F := F) c xsM) (arg8 : Memref sig .tc .vmem S384x64 .bf16),
    n + 1 = t.val ∧ WsIs m c fw ∧ XsIs m c n fx ∧
      ((∃ (h2 : k0_cond2 (grid0.coords t) = 1#1) (arg5 : Memref sig .tc .vmem S384x5120 .bf16) (f5 : Bf (F := F) c arg5),
          X = arg8.view.read (Elt F) (arg8.view.writes (Elt F) arg8.view.junk (runMid.sl.H8_1 c (grid0.coords t) h2 arg5 f5 fw fx)))
      ∨ (∃ h3 : k0_cond3 (grid0.coords t) = 1#1,
          X = arg8.view.read (Elt F) (arg8.view.writes (Elt F) arg8.view.junk (runLast.sl.H8_1 c (grid0.coords t) h3 fw fx))))

/-! ## The proof data -/

/-- The windows whose contents after a point are held to a property: the five results. -/
def held : Fin 9 → Bool := fun w => decide (4 ≤ w.val)

/-- What a result's buffer holds after point `t`: a projection's nothing before the second point, the quantiser's
    always those of the last block filled. -/
def Rl (c : Dev nD) (w : Fin 9) (t : Fin cfg0.N) (X : (cfg0.win w).block.Idx → Elt F (cfg0.win w).elt) : Prop :=
  match w, X with
  | ⟨4, _⟩, X => t.val ≠ 0 → QIs m c t X
  | ⟨5, _⟩, X => t.val ≠ 0 → CIs m c t X
  | ⟨6, _⟩, X => t.val ≠ 0 → KIs m c t X
  | ⟨7, _⟩, X => CodesIs m c (min t.val 15) X
  | ⟨8, _⟩, X => ScalesIs m c (min t.val 15) X
  | ⟨0, _⟩, _ => True
  | ⟨1, _⟩, _ => True
  | ⟨2, _⟩, _ => True
  | ⟨3, _⟩, _ => True

/-- The body's two transfer semaphores. -/
abbrev osem0 : Fin 2 → SemLoc sig := fun j => (![SemLoc.dma 15, SemLoc.dma 16] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0) := by
  rw [Pipeline.ownSems0_eq_of_list c osem0 [0, 1] (by decide) (by decide)]; rfl
/-- The operand left in HBM that the body's transfers read: the weights. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = (wM.view.loc (c : Thread nD τ) ↦{fullShare} V m c main_arg1) := by
  rw [BI.bigSep_eq_bigSepL_of_eq [main_arg1] (by decide) (by decide)]; rfl

/-- The invariant before point `n`: the scratch buffers, the weight scratch filled from the first point on and the rows' slot of the
    last point filled; the generator register; the transfer semaphores at zero; the weights. -/
def Phi (c : Dev nD) (n : ℕ) : sProp 𝕄 :=
  iprop(iprop((∃ fw, ⌜0 < n → WsIs m c fw⌝ ∗ (wsM.view.loc (c : Thread nD τ) ↦{fullShare} fw))
      ∗ (∃ f, stM.view.loc (c : Thread nD τ) ↦{fullShare} f)
      ∗ (∃ fx, ⌜∀ k, k + 1 = n → n < 17 → XsIs m c k fx⌝ ∗ (xsM.view.loc (c : Thread nD τ) ↦{fullShare} fx))
      ∗ (∃ f, yM.view.loc (c : Thread nD τ) ↦{fullShare} f))
    ∗ (∃ r, prngReg c r)
    ∗ iprop(semVal ((c : Thread nD τ), SemLoc.dma 15) 0 ∗ semVal ((c : Thread nD τ), SemLoc.dma 16) 0)
    ∗ (wM.view.loc (c : Thread nD τ) ↦{fullShare} V m c main_arg1))

theorem PhiD_eq (c : Dev nD) :
    (Pipeline.ΦD osem0 spec0 H0 (V m) c : sProp 𝕄)
      = iprop(iprop((∃ f, wsM.view.loc (c : Thread nD τ) ↦{fullShare} f) ∗ (∃ f, stM.view.loc (c : Thread nD τ) ↦{fullShare} f)
          ∗ (∃ f, xsM.view.loc (c : Thread nD τ) ↦{fullShare} f) ∗ (∃ f, yM.view.loc (c : Thread nD τ) ↦{fullShare} f))
        ∗ (∃ r, prngReg c r)
        ∗ iprop(semVal ((c : Thread nD τ), SemLoc.dma 15) 0 ∗ semVal ((c : Thread nD τ), SemLoc.dma 16) 0)
        ∗ (wM.view.loc (c : Thread nD τ) ↦{fullShare} V m c main_arg1)) := by
  rw [Pipeline.ΦD_eq, scopedRest0_eq, ownSems00_eq, hbmPts0_eq]

theorem Phi_in (c : Dev nD) : (Pipeline.ΦD osem0 spec0 H0 (V m) c : sProp 𝕄) ⊢ Phi m c 0 := by
  rw [PhiD_eq]; unfold Phi
  iintro ⟨⟨⟨%fw, Hw⟩, Hs, ⟨%fx, Hx⟩, Hy⟩, Hg, Hq, Hm⟩
  isplitl [Hw Hs Hx Hy]
  · isplitl [Hw]
    · iexists fw; isplitr
      · ipureintro; exact fun h => absurd h (Nat.lt_irrefl 0)
      iexact Hw
    isplitl [Hs]; · iexact Hs
    isplitl [Hx]
    · iexists fx; isplitr
      · ipureintro; exact fun k h => absurd h (Nat.succ_ne_zero k)
      iexact Hx
    iexact Hy
  isplitl [Hg]; · iexact Hg
  isplitl [Hq]; · iexact Hq
  iexact Hm

theorem Phi_out (c : Dev nD) (n : ℕ) : (Phi m c n : sProp 𝕄) ⊢ Pipeline.ΦD osem0 spec0 H0 (V m) c := by
  rw [PhiD_eq]; unfold Phi
  iintro ⟨⟨⟨%fw, -, Hw⟩, Hs, ⟨%fx, -, Hx⟩, Hy⟩, Hg, Hq, Hm⟩
  isplitl [Hw Hs Hx Hy]
  · isplitl [Hw]; · iexists fw; iexact Hw
    isplitl [Hs]; · iexact Hs
    isplitl [Hx]; · iexists fx; iexact Hx
    iexact Hy
  isplitl [Hg]; · iexact Hg
  isplitl [Hq]; · iexact Hq
  iexact Hm

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed 4 t
    | ⟨5, _⟩ => Dat.unnamed 5 t
    | ⟨6, _⟩ => Dat.unnamed 6 t
    | ⟨7, _⟩ => Dat.unnamed 7 t
    | ⟨8, _⟩ => Dat.unnamed 8 t
  Φ n := Phi m c n.val
  q _ := fullShare
  owed _ := 0

/-- The same data with the results' windows held to `Rl`. -/
abbrev rdat (c : Dev nD) : RDat τ (Elt F) Unit ℕ (Pipeline.UD sig nD τ) ℕ cfg0 c := (dats m 0 c).toRRel held (Rl m c)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; rfl)

/-! ## The body at a point -/

/-- Which of the body's three cases a point is. -/
theorem cond_cases : ∀ t : Fin cfg0.N,
    (t.val = 0 ∧ k0_cond1 (grid0.coords t) = 1#1 ∧ ¬ k0_cond2 (grid0.coords t) = 1#1 ∧ ¬ k0_cond3 (grid0.coords t) = 1#1)
    ∨ (0 < t.val ∧ t.val < 16 ∧ ¬ k0_cond1 (grid0.coords t) = 1#1 ∧ k0_cond2 (grid0.coords t) = 1#1 ∧ ¬ k0_cond3 (grid0.coords t) = 1#1)
    ∨ (t.val = 16 ∧ ¬ k0_cond1 (grid0.coords t) = 1#1 ∧ ¬ k0_cond2 (grid0.coords t) = 1#1 ∧ k0_cond3 (grid0.coords t) = 1#1) := by
  decide +kernel

theorem nofetch7 : ∀ t : Fin cfg0.N, (cfg0.win 7).fetch t = false := fun _ => rfl
theorem nofetch8 : ∀ t : Fin cfg0.N, (cfg0.win 8).fetch t = false := fun _ => rfl
theorem noflush7 : ∀ t : Fin cfg0.N, t.val = 15 → (cfg0.win 7).flush t = false := by decide +kernel
theorem noflush8 : ∀ t : Fin cfg0.N, t.val = 15 → (cfg0.win 8).flush t = false := by decide +kernel

/-- At the last point the codes' buffer still holds the last block's codes, -/
theorem finds7 (c : Dev nD) (t : Fin cfg0.N) (ht : t.val = 16) (Y) (h : (rdat m c).Finds 7 t Y) : Rl m c 7 t Y := by
  rw [(rdat m c).finds_of_pos (nofetch7 t) (by omega)] at h
  rcases h with h | h
  · rw [noflush7 _ (by show t.val - 1 = 15; omega)] at h; exact absurd h Bool.false_ne_true
  · have h' := (dats m 0 c).toRRel_leaves (fgt := held) (Rl := Rl m c) rfl h
    unfold Rl at h' ⊢
    simp only [show min (t.val - 1) 15 = 15 by omega, show min t.val 15 = 15 by omega] at h' ⊢
    exact h'
/-- and the scales' its scales. -/
theorem finds8 (c : Dev nD) (t : Fin cfg0.N) (ht : t.val = 16) (Y) (h : (rdat m c).Finds 8 t Y) : Rl m c 8 t Y := by
  rw [(rdat m c).finds_of_pos (nofetch8 t) (by omega)] at h
  rcases h with h | h
  · rw [noflush8 _ (by show t.val - 1 = 15; omega)] at h; exact absurd h Bool.false_ne_true
  · have h' := (dats m 0 c).toRRel_leaves (fgt := held) (Rl := Rl m c) rfl h
    unfold Rl at h' ⊢
    simp only [show min (t.val - 1) 15 = 15 by omega, show min t.val 15 = 15 by omega] at h' ⊢
    exact h'

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜(rdat m c).Finds 4 t Y⌝ ∗ owns (c : Thread nD τ) (st0_4 t) fullShare Y)
    ∗ (∃ Y, ⌜(rdat m c).Finds 5 t Y⌝ ∗ owns (c : Thread nD τ) (st0_5 t) fullShare Y)
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜Rl m c 4 t X⌝ ∗ owns (c : Thread nD τ) (st0_4 t) fullShare X)
    ∗ (∃ X, ⌜Rl m c 5 t X⌝ ∗ owns (c : Thread nD τ) (st0_5 t) fullShare X)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X))

/-! ## What the runs leave -/

section
variable (c : Dev nD) (i : grid0.Coords) (h1 : k0_cond1 i = 1#1) (h2 : ¬ k0_cond2 i = 1#1) (h3 : ¬ k0_cond3 i = 1#1)
    (arg2 : Memref sig .tc .smem S17x40 .f32) (harg2 : arg2.IsWhole) (arg3 : Memref sig .tc .vmem S1x1536 .bf16) (harg3 : arg3.IsWhole)
    (arg4 : Memref sig .tc .vmem S1x512 .bf16) (harg4 : arg4.IsWhole) (arg5 : Memref sig .tc .vmem S384x5120 .bf16) (harg5 : arg5.IsWhole)
    (arg6 : Memref sig .tc .vmem S384x1536 .bf16) (harg6 : arg6.IsWhole) (arg7 : Memref sig .tc .vmem S384x512 .bf16) (harg7 : arg7.IsWhole)
    (arg8 : Memref sig .tc .vmem S384x64 .bf16) (harg8 : arg8.IsWhole) (arg9 : Memref sig .tc .vmem S384x5120 .fp8e4m3) (harg9 : arg9.IsWhole)
    (arg10 : Memref sig .tc .vmem S384x40 .f32) (harg10 : arg10.IsWhole)
    (f1 : Bf (F := F) c wM) (f2 : Bf (F := F) c arg2) (f5 : Bf (F := F) c arg5)
theorem runFirst_codes : (runFirst c i h1 h2 h3 arg2 harg2 arg3 harg3 arg4 harg4 arg5 harg5 arg6 harg6 arg7 harg7 arg8 harg8 arg9 harg9 arg10 harg10 f1 f2 f5).1.1 = arg9.view.writes (Elt F) arg9.view.junk (runFirst.sl.H9_40 c arg5 f5) := by rw [runFirst]
theorem runFirst_scales : (runFirst c i h1 h2 h3 arg2 harg2 arg3 harg3 arg4 harg4 arg5 harg5 arg6 harg6 arg7 harg7 arg8 harg8 arg9 harg9 arg10 harg10 f1 f2 f5).1.2.1 = arg10.view.writes (Elt F) arg10.view.junk (runFirst.sl.H10_40 c arg5 f5) := by rw [runFirst]
theorem runFirst_ws (gs) : (runFirst c i h1 h2 h3 arg2 harg2 arg3 harg3 arg4 harg4 arg5 harg5 arg6 harg6 arg7 harg7 arg8 harg8 arg9 harg9 arg10 harg10 f1 f2 f5).1.2.2.1 gs = wsM.view.writes (Elt F) wsM.view.junk (runFirst.sl.Hw_680 c arg2 f1 f2 gs) := by rw [runFirst]
theorem runFirst_xs (gx) : (runFirst c i h1 h2 h3 arg2 harg2 arg3 harg3 arg4 harg4 arg5 harg5 arg6 harg6 arg7 harg7 arg8 harg8 arg9 harg9 arg10 harg10 f1 f2 f5).1.2.2.2 gx = xsM.view.writes (Elt F) gx (runFirst.sl.Hx_40 c arg5 f5) := by rw [runFirst]
end
section
variable (c : Dev nD) (i : grid0.Coords) (h1 : ¬ k0_cond1 i = 1#1) (h2 : k0_cond2 i = 1#1) (h3 : ¬ k0_cond3 i = 1#1)
    (arg2 : Memref sig .tc .smem S17x40 .f32) (harg2 : arg2.IsWhole) (arg3 : Memref sig .tc .vmem S1x1536 .bf16) (harg3 : arg3.IsWhole)
    (arg4 : Memref sig .tc .vmem S1x512 .bf16) (harg4 : arg4.IsWhole) (arg5 : Memref sig .tc .vmem S384x5120 .bf16) (harg5 : arg5.IsWhole)
    (arg6 : Memref sig .tc .vmem S384x1536 .bf16) (harg6 : arg6.IsWhole) (arg7 : Memref sig .tc .vmem S384x512 .bf16) (harg7 : arg7.IsWhole)
    (arg8 : Memref sig .tc .vmem S384x64 .bf16) (harg8 : arg8.IsWhole) (arg9 : Memref sig .tc .vmem S384x5120 .fp8e4m3) (harg9 : arg9.IsWhole)
    (arg10 : Memref sig .tc .vmem S384x40 .f32) (harg10 : arg10.IsWhole)
    (f3 : Bf (F := F) c arg3) (f4 : Bf (F := F) c arg4) (f5 : Bf (F := F) c arg5) (fw : Bf (F := F) c wsM) (fx : Bf (F := F) c xsM)
theorem runMid_q : (runMid c i h1 h2 h3 arg2 harg2 arg3 harg3 arg4 harg4 arg5 harg5 arg6 harg6 arg7 harg7 arg8 harg8 arg9 harg9 arg10 harg10 f3 f4 f5 fw fx).1.1 = arg6.view.writes (Elt F) arg6.view.junk (runMid.sl.H6_1 c i h2 arg3 arg5 f3 f5 fw fx) := by rw [runMid]
theorem runMid_c : (runMid c i h1 h2 h3 arg2 harg2 arg3 harg3 arg4 harg4 arg5 harg5 arg6 harg6 arg7 harg7 arg8 harg8 arg9 harg9 arg10 harg10 f3 f4 f5 fw fx).1.2.1 = arg7.view.writes (Elt F) arg7.view.junk (runMid.sl.H7_1 c i h2 arg4 arg5 f4 f5 fw fx) := by rw [runMid]
theorem runMid_k : (runMid c i h1 h2 h3 arg2 harg2 arg3 harg3 arg4 harg4 arg5 harg5 arg6 harg6 arg7 harg7 arg8 harg8 arg9 harg9 arg10 harg10 f3 f4 f5 fw fx).1.2.2.1 = arg8.view.writes (Elt F) arg8.view.junk (runMid.sl.H8_1 c i h2 arg5 f5 fw fx) := by rw [runMid]
theorem runMid_codes : (runMid c i h1 h2 h3 arg2 harg2 arg3 harg3 arg4 harg4 arg5 harg5 arg6 harg6 arg7 harg7 arg8 harg8 arg9 harg9 arg10 harg10 f3 f4 f5 fw fx).1.2.2.2.1 = arg9.view.writes (Elt F) arg9.view.junk (runMid.sl.H9_40 c arg5 f5) := by rw [runMid]
theorem runMid_scales : (runMid c i h1 h2 h3 arg2 harg2 arg3 harg3 arg4 harg4 arg5 harg5 arg6 harg6 arg7 harg7 arg8 harg8 arg9 harg9 arg10 harg10 f3 f4 f5 fw fx).1.2.2.2.2.1 = arg10.view.writes (Elt F) arg10.view.junk (runMid.sl.H10_40 c arg5 f5) := by rw [runMid]
theorem runMid_xs : (runMid c i h1 h2 h3 arg2 harg2 arg3 harg3 arg4 harg4 arg5 harg5 arg6 harg6 arg7 harg7 arg8 harg8 arg9 harg9 arg10 harg10 f3 f4 f5 fw fx).1.2.2.2.2.2 = xsM.view.writes (Elt F) fx (runMid.sl.Hx_40 c i h2 arg5 f5) := by rw [runMid]
end
section
variable (c : Dev nD) (i : grid0.Coords) (h1 : ¬ k0_cond1 i = 1#1) (h2 : ¬ k0_cond2 i = 1#1) (h3 : k0_cond3 i = 1#1)
    (arg2 : Memref sig .tc .smem S17x40 .f32) (harg2 : arg2.IsWhole) (arg3 : Memref sig .tc .vmem S1x1536 .bf16) (harg3 : arg3.IsWhole)
    (arg4 : Memref sig .tc .vmem S1x512 .bf16) (harg4 : arg4.IsWhole) (arg5 : Memref sig .tc .vmem S384x5120 .bf16) (harg5 : arg5.IsWhole)
    (arg6 : Memref sig .tc .vmem S384x1536 .bf16) (harg6 : arg6.IsWhole) (arg7 : Memref sig .tc .vmem S384x512 .bf16) (harg7 : arg7.IsWhole)
    (arg8 : Memref sig .tc .vmem S384x64 .bf16) (harg8 : arg8.IsWhole) (arg9 : Memref sig .tc .vmem S384x5120 .fp8e4m3) (harg9 : arg9.IsWhole)
    (arg10 : Memref sig .tc .vmem S384x40 .f32) (harg10 : arg10.IsWhole)
    (f3 : Bf (F := F) c arg3) (f4 : Bf (F := F) c arg4) (fw : Bf (F := F) c wsM) (fx : Bf (F := F) c xsM)
theorem runLast_q : (runLast c i h1 h2 h3 arg2 harg2 arg3 harg3 arg4 harg4 arg5 harg5 arg6 harg6 arg7 harg7 arg8 harg8 arg9 harg9 arg10 harg10 f3 f4 fw fx).1.1 = arg6.view.writes (Elt F) arg6.view.junk (runLast.sl.H6_1 c i h3 arg3 f3 fw fx) := by rw [runLast]
theorem runLast_c : (runLast c i h1 h2 h3 arg2 harg2 arg3 harg3 arg4 harg4 arg5 harg5 arg6 harg6 arg7 harg7 arg8 harg8 arg9 harg9 arg10 harg10 f3 f4 fw fx).1.2.1 = arg7.view.writes (Elt F) arg7.view.junk (runLast.sl.H7_1 c i h3 arg4 f4 fw fx) := by rw [runLast]
theorem runLast_k : (runLast c i h1 h2 h3 arg2 harg2 arg3 harg3 arg4 harg4 arg5 harg5 arg6 harg6 arg7 harg7 arg8 harg8 arg9 harg9 arg10 harg10 f3 f4 fw fx).1.2.2 = arg8.view.writes (Elt F) arg8.view.junk (runLast.sl.H8_1 c i h3 fw fx) := by rw [runLast]
end

theorem pt_ws (c : Dev nD) (f) : (pt c wsM f : sProp 𝕄) = (wsM.view.loc (c : Thread nD τ) ↦{fullShare} f) := by
  unfold pt; rw [show wsM.view.set = Finset.univ from View.set_whole _]
theorem pt_xs (c : Dev nD) (f) : (pt c xsM f : sProp 𝕄) = (xsM.view.loc (c : Thread nD τ) ↦{fullShare} f) := by
  unfold pt; rw [show xsM.view.set = Finset.univ from View.set_whole _]
theorem pt_y (c : Dev nD) (f) : (pt c yM f : sProp 𝕄) = (yM.view.loc (c : Thread nD τ) ↦{fullShare} f) := by
  unfold pt; rw [show yM.view.set = Finset.univ from View.set_whole _]
/-- A whole share of the weights is two half shares. -/
theorem w_halves (c : Dev nD) (f) : (wM.view.loc (c : Thread nD τ) ↦{fullShare} f : sProp 𝕄)
    ⊣⊢ iprop((wM.view.loc (c : Thread nD τ) ↦{fullShare.left} f) ∗ (wM.view.loc (c : Thread nD τ) ↦{fullShare.right} f)) :=
  pointsTo_share (PosShare.mem_left_op_right fullShare)

set_option maxHeartbeats 1000000 in
/-- The body at an inner point. -/
theorem sound_mid (c : Dev nD) (t : Fin cfg0.N) (ht0 : 0 < t.val) (ht : t.val < 16)
    (h1 : ¬ k0_cond1 (grid0.coords t) = 1#1) (h2 : k0_cond2 (grid0.coords t) = 1#1) (h3 : ¬ k0_cond3 (grid0.coords t) = 1#1) :
    bodyPre m c t ⊢ wp frame (wpE (defs₀ (F := F)) Variants.none c none) Set.univ (bodyAt0 t) (fun _ => bodyPost m c t) := by
  unfold bodyPre bodyPost bodyAt0
  rw [show (dats m 0 c).Φ t.succ = Phi m c (t.val + 1) from rfl, show (dats m 0 c).Φ t.castSucc = Phi m c t.val from rfl]
  unfold Phi Dat.owesAt Pipeline.owesWithin
  rw [show (dats m 0 c).owed t.castSucc = 0 from rfl, show (dats m 0 c).owed t.succ = 0 from rfl]
  simp only [before0_0, before0_1, before0_2, before0_3, after0_0, after0_1, after0_2, after0_3]
  unfold owns
  iintro ⟨⟨⟨⟨%fw, %hw, Hw⟩, ⟨%fs, Hs⟩, ⟨%fx, %hx, Hx⟩, ⟨%fy, Hy⟩⟩, Hg, ⟨Hq0, Hq1⟩, Hm⟩, ⟨%W, %hW, HW⟩,
    ⟨%d0, %f0, %e0, H0⟩, ⟨%d1, %f1, %e1, H1⟩, ⟨%d2, %f2, %e2, H2⟩, ⟨%d3, %f3, %e3, H3⟩,
    ⟨%Y4, %hY4, %f4, %e4, H4⟩, ⟨%Y5, %hY5, %f5, %e5, H5⟩, ⟨%Y6, %hY6, %f6, %e6, H6⟩, ⟨%Y7, %hY7, %f7, %e7, H7⟩, ⟨%Y8, %hY8, %f8, %e8, H8⟩⟩
  iapply ((runMid c (grid0.coords t) h1 h2 h3 _ _ _ _ _ _ _ _ _ _ _ _ _ _ _ _ _ _ f1 f2 f3 fw fx).2 f4 f5 f6 f7 f8 fy _)
  simp only [pt_ws, pt_xs, pt_y]
  isplitl [H1]; · iexact H1
  isplitl [H2]; · iexact H2
  isplitl [H3]; · iexact H3
  isplitl [Hw]; · iexact Hw
  isplitl [Hx]; · iexact Hx
  isplitl [H4]; · iexact H4
  isplitl [H5]; · iexact H5
  isplitl [H6]; · iexact H6
  isplitl [H7]; · iexact H7
  isplitl [H8]; · iexact H8
  isplitl [Hy]; · iexact Hy
  iintro ⟨H1, H2, H3, Hw, Hx, H4, H5, H6, H7, H8, ⟨%fy', Hy⟩⟩
  isplitl [Hw Hs Hx Hy Hg Hq0 Hq1 Hm]
  · isplitl [Hw Hs Hx Hy]
    · isplitl [Hw]
      · iexists _; isplitr
        swap; · iexact Hw
        ipureintro; exact fun _ => hw ht0
      isplitl [Hs]; · iexists _; iexact Hs
      isplitl [Hx]
      · iexists _; isplitr
        swap; · iexact Hx
        ipureintro; exact fun k hk _ => ⟨t, st0_3 t, f3, fx, by omega, e3, Or.inr ⟨h2, runMid_xs c _ h1 h2 h3 _ _ _ _ _ _ _ _ _ _ _ _ _ _ _ _ _ _ f1 f2 f3 fw fx⟩⟩
      iexists _; iexact Hy
    isplitl [Hg]; · iexact Hg
    isplitl [Hq0 Hq1]
    · isplitl [Hq0]; · iexact Hq0
      iexact Hq1
    iexact Hm
  isplitl [HW]
  · iexists _; isplitr
    swap; · iexact HW
    ipureintro; exact fun _ _ => Or.inl trivial
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists _; isplitr
    swap
    · iexists _; isplitr
      swap; · iexact H4
      ipureintro; exact rfl
    ipureintro; exact fun _ => ⟨t.val - 1, fw, fx, st0_4 t, st0_1 t, f1, by omega, hw ht0, hx _ (by omega) (by omega), e1, Or.inl ⟨h2, st0_3 t, f3, congrArg ((st0_4 t).view.read (Elt F)) (runMid_q c _ h1 h2 h3 _ _ _ _ _ _ _ _ _ _ _ _ _ _ _ _ _ _ f1 f2 f3 fw fx)⟩⟩
  isplitl [H5]
  · iexists _; isplitr
    swap
    · iexists _; isplitr
      swap; · iexact H5
      ipureintro; exact rfl
    ipureintro; exact fun _ => ⟨t.val - 1, fw, fx, st0_5 t, st0_2 t, f2, by omega, hw ht0, hx _ (by omega) (by omega), e2, Or.inl ⟨h2, st0_3 t, f3, congrArg ((st0_5 t).view.read (Elt F)) (runMid_c c _ h1 h2 h3 _ _ _ _ _ _ _ _ _ _ _ _ _ _ _ _ _ _ f1 f2 f3 fw fx)⟩⟩
  isplitl [H6]
  · iexists _; isplitr
    swap
    · iexists _; isplitr
      swap; · iexact H6
      ipureintro; exact rfl
    ipureintro; exact fun _ => ⟨t.val - 1, fw, fx, st0_6 t, by omega, hw ht0, hx _ (by omega) (by omega), Or.inl ⟨h2, st0_3 t, f3, congrArg ((st0_6 t).view.read (Elt F)) (runMid_k c _ h1 h2 h3 _ _ _ _ _ _ _ _ _ _ _ _ _ _ _ _ _ _ f1 f2 f3 fw fx)⟩⟩
  isplitl [H7]
  · iexists _; isplitr
    swap
    · iexists _; isplitr
      swap; · iexact H7
      ipureintro; exact rfl
    ipureintro; exact ⟨t, st0_3 t, f3, st0_7 t, by omega, e3, Or.inr (congrArg ((st0_7 t).view.read (Elt F)) (runMid_codes c _ h1 h2 h3 _ _ _ _ _ _ _ _ _ _ _ _ _ _ _ _ _ _ f1 f2 f3 fw fx))⟩
  iexists _; isplitr
  swap
  · iexists _; isplitr
    swap; · iexact H8
    ipureintro; exact rfl
  ipureintro; exact ⟨t, st0_3 t, f3, st0_8 t, by omega, e3, Or.inr (congrArg ((st0_8 t).view.read (Elt F)) (runMid_scales c _ h1 h2 h3 _ _ _ _ _ _ _ _ _ _ _ _ _ _ _ _ _ _ f1 f2 f3 fw fx))⟩
set_option maxHeartbeats 1000000 in
/-- The body at the last point. -/
theorem sound_last (c : Dev nD) (t : Fin cfg0.N) (ht : t.val = 16)
    (h1 : ¬ k0_cond1 (grid0.coords t) = 1#1) (h2 : ¬ k0_cond2 (grid0.coords t) = 1#1) (h3 : k0_cond3 (grid0.coords t) = 1#1) :
    bodyPre m c t ⊢ wp frame (wpE (defs₀ (F := F)) Variants.none c none) Set.univ (bodyAt0 t) (fun _ => bodyPost m c t) := by
  unfold bodyPre bodyPost bodyAt0
  rw [show (dats m 0 c).Φ t.succ = Phi m c (t.val + 1) from rfl, show (dats m 0 c).Φ t.castSucc = Phi m c t.val from rfl]
  unfold Phi Dat.owesAt Pipeline.owesWithin
  rw [show (dats m 0 c).owed t.castSucc = 0 from rfl, show (dats m 0 c).owed t.succ = 0 from rfl]
  simp only [before0_0, before0_1, before0_2, before0_3, after0_0, after0_1, after0_2, after0_3]
  unfold owns
  iintro ⟨⟨⟨⟨%fw, %hw, Hw⟩, ⟨%fs, Hs⟩, ⟨%fx, %hx, Hx⟩, ⟨%fy, Hy⟩⟩, Hg, ⟨Hq0, Hq1⟩, Hm⟩, ⟨%W, %hW, HW⟩,
    ⟨%d0, %f0, %e0, H0⟩, ⟨%d1, %f1, %e1, H1⟩, ⟨%d2, %f2, %e2, H2⟩, ⟨%d3, %f3, %e3, H3⟩,
    ⟨%Y4, %hY4, %f4, %e4, H4⟩, ⟨%Y5, %hY5, %f5, %e5, H5⟩, ⟨%Y6, %hY6, %f6, %e6, H6⟩, ⟨%Y7, %hY7, %f7, %e7, H7⟩, ⟨%Y8, %hY8, %f8, %e8, H8⟩⟩
  iapply ((runLast c (grid0.coords t) h1 h2 h3 _ _ _ _ _ _ _ _ _ _ _ _ _ _ _ _ _ _ f1 f2 fw fx).2 f4 f5 f6 fy _)
  simp only [pt_ws, pt_xs, pt_y]
  isplitl [H1]; · iexact H1
  isplitl [H2]; · iexact H2
  isplitl [Hw]; · iexact Hw
  isplitl [Hx]; · iexact Hx
  isplitl [H4]; · iexact H4
  isplitl [H5]; · iexact H5
  isplitl [H6]; · iexact H6
  isplitl [Hy]; · iexact Hy
  iintro ⟨H1, H2, Hw, Hx, H4, H5, H6, ⟨%fy', Hy⟩⟩
  isplitl [Hw Hs Hx Hy Hg Hq0 Hq1 Hm]
  · isplitl [Hw Hs Hx Hy]
    · isplitl [Hw]
      · iexists _; isplitr
        swap; · iexact Hw
        ipureintro; exact fun _ => hw (by omega)
      isplitl [Hs]; · iexists _; iexact Hs
      isplitl [Hx]
      · iexists _; isplitr
        swap; · iexact Hx
        ipureintro; exact fun k hk h => absurd h (by omega)
      iexists _; iexact Hy
    isplitl [Hg]; · iexact Hg
    isplitl [Hq0 Hq1]
    · isplitl [Hq0]; · iexact Hq0
      iexact Hq1
    iexact Hm
  isplitl [HW]
  · iexists _; isplitr
    swap; · iexact HW
    ipureintro; exact fun _ _ => Or.inl trivial
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists _; isplitr
    swap
    · iexists _; isplitr
      swap; · iexact H4
      ipureintro; exact rfl
    ipureintro; exact fun _ => ⟨t.val - 1, fw, fx, st0_4 t, st0_1 t, f1, by omega, hw (by omega), hx _ (by omega) (by omega), e1, Or.inr ⟨h3, congrArg ((st0_4 t).view.read (Elt F)) (runLast_q c _ h1 h2 h3 _ _ _ _ _ _ _ _ _ _ _ _ _ _ _ _ _ _ f1 f2 fw fx)⟩⟩
  isplitl [H5]
  · iexists _; isplitr
    swap
    · iexists _; isplitr
      swap; · iexact H5
      ipureintro; exact rfl
    ipureintro; exact fun _ => ⟨t.val - 1, fw, fx, st0_5 t, st0_2 t, f2, by omega, hw (by omega), hx _ (by omega) (by omega), e2, Or.inr ⟨h3, congrArg ((st0_5 t).view.read (Elt F)) (runLast_c c _ h1 h2 h3 _ _ _ _ _ _ _ _ _ _ _ _ _ _ _ _ _ _ f1 f2 fw fx)⟩⟩
  isplitl [H6]
  · iexists _; isplitr
    swap
    · iexists _; isplitr
      swap; · iexact H6
      ipureintro; exact rfl
    ipureintro; exact fun _ => ⟨t.val - 1, fw, fx, st0_6 t, by omega, hw (by omega), hx _ (by omega) (by omega), Or.inr ⟨h3, congrArg ((st0_6 t).view.read (Elt F)) (runLast_k c _ h1 h2 h3 _ _ _ _ _ _ _ _ _ _ _ _ _ _ _ _ _ _ f1 f2 fw fx)⟩⟩
  isplitl [H7]
  · iexists _; isplitr
    swap
    · iexists _; isplitr
      swap; · iexact H7
      ipureintro; exact e7
    ipureintro; exact finds7 m c t ht Y7 hY7
  iexists _; isplitr
  swap
  · iexists _; isplitr
    swap; · iexact H8
    ipureintro; exact e8
  ipureintro; exact finds8 m c t ht Y8 hY8
set_option maxHeartbeats 1000000 in
/-- The body at the first point. -/
theorem sound_first (c : Dev nD) (t : Fin cfg0.N) (ht : t.val = 0)
    (h1 : k0_cond1 (grid0.coords t) = 1#1) (h2 : ¬ k0_cond2 (grid0.coords t) = 1#1) (h3 : ¬ k0_cond3 (grid0.coords t) = 1#1) :
    bodyPre m c t ⊢ wp frame (wpE (defs₀ (F := F)) Variants.none c none) Set.univ (bodyAt0 t) (fun _ => bodyPost m c t) := by
  unfold bodyPre bodyPost bodyAt0
  rw [show (dats m 0 c).Φ t.succ = Phi m c (t.val + 1) from rfl, show (dats m 0 c).Φ t.castSucc = Phi m c t.val from rfl]
  unfold Phi Dat.owesAt Pipeline.owesWithin
  rw [show (dats m 0 c).owed t.castSucc = 0 from rfl, show (dats m 0 c).owed t.succ = 0 from rfl]
  simp only [before0_0, before0_1, before0_2, before0_3, after0_0, after0_1, after0_2, after0_3]
  unfold owns
  iintro ⟨⟨⟨⟨%fw, %hw, Hw⟩, ⟨%fs, Hs⟩, ⟨%fx, %hx, Hx⟩, ⟨%fy, Hy⟩⟩, Hg, ⟨Hq0, Hq1⟩, Hm⟩, ⟨%W, %hW, HW⟩,
    ⟨%d0, %f0, %e0, H0⟩, ⟨%d1, %f1, %e1, H1⟩, ⟨%d2, %f2, %e2, H2⟩, ⟨%d3, %f3, %e3, H3⟩,
    ⟨%Y4, %hY4, %f4, %e4, H4⟩, ⟨%Y5, %hY5, %f5, %e5, H5⟩, ⟨%Y6, %hY6, %f6, %e6, H6⟩, ⟨%Y7, %hY7, %f7, %e7, H7⟩, ⟨%Y8, %hY8, %f8, %e8, H8⟩⟩
  ihave Hmm := ((w_halves c (V m c main_arg1)).1) $$ Hm
  icases Hmm with ⟨Hm, Hm'⟩
  iapply ((runFirst c (grid0.coords t) h1 h2 h3 _ _ _ _ _ _ _ _ _ _ _ _ _ _ _ _ _ _ (V m c main_arg1) f0 f3).2 f7 f8 fw fs fx W _)
  simp only [pt_ws, pt_xs]
  isplitl [Hm]; · iexact Hm
  isplitl [Hm']; · iexact Hm'
  isplitl [H0]; · iexact H0
  isplitl [H3]; · iexact H3
  isplitl [H7]; · iexact H7
  isplitl [H8]; · iexact H8
  isplitl [Hw]; · iexact Hw
  isplitl [Hs]; · iexact Hs
  isplitl [Hx]; · iexact Hx
  isplitl [Hq0]; · iexact Hq0
  isplitl [Hq1]; · iexact Hq1
  isplitl [HW]; · iexact HW
  iintro ⟨Hm, Hm', H0, H3, H7, H8, Hw, ⟨%fs', Hs⟩, Hx, Hq0, Hq1, ⟨%W', HW⟩⟩
  ihave Hm := ((w_halves c (V m c main_arg1)).2) $$ [Hm Hm']
  · isplitl [Hm]; · iexact Hm
    iexact Hm'
  isplitl [Hw Hs Hx Hy Hg Hq0 Hq1 Hm]
  · isplitl [Hw Hs Hx Hy]
    · isplitl [Hw]
      · iexists _; isplitr
        swap; · iexact Hw
        ipureintro; exact fun _ => ⟨st0_0 t, f0, t, fs, e0, runFirst_ws c _ h1 h2 h3 _ _ _ _ _ _ _ _ _ _ _ _ _ _ _ _ _ _ (V m c main_arg1) f0 f3 fs⟩
      isplitl [Hs]; · iexists _; iexact Hs
      isplitl [Hx]
      · iexists _; isplitr
        swap; · iexact Hx
        ipureintro; exact fun k hk _ => ⟨t, st0_3 t, f3, fx, by omega, e3, Or.inl ⟨by omega, runFirst_xs c _ h1 h2 h3 _ _ _ _ _ _ _ _ _ _ _ _ _ _ _ _ _ _ (V m c main_arg1) f0 f3 fx⟩⟩
      iexists _; iexact Hy
    isplitl [Hg]; · iexact Hg
    isplitl [Hq0 Hq1]
    · isplitl [Hq0]; · iexact Hq0
      iexact Hq1
    iexact Hm
  isplitl [HW]
  · iexists _; isplitr
    swap; · iexact HW
    ipureintro; exact fun _ _ => Or.inl trivial
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists _; isplitr
    swap
    · iexists _; isplitr
      swap; · iexact H4
      ipureintro; exact e4
    ipureintro; exact fun h => absurd ht h
  isplitl [H5]
  · iexists _; isplitr
    swap
    · iexists _; isplitr
      swap; · iexact H5
      ipureintro; exact e5
    ipureintro; exact fun h => absurd ht h
  isplitl [H6]
  · iexists _; isplitr
    swap
    · iexists _; isplitr
      swap; · iexact H6
      ipureintro; exact e6
    ipureintro; exact fun h => absurd ht h
  isplitl [H7]
  · iexists _; isplitr
    swap
    · iexists _; isplitr
      swap; · iexact H7
      ipureintro; exact rfl
    ipureintro; exact ⟨t, st0_3 t, f3, st0_7 t, by omega, e3, Or.inl (congrArg ((st0_7 t).view.read (Elt F)) (runFirst_codes c _ h1 h2 h3 _ _ _ _ _ _ _ _ _ _ _ _ _ _ _ _ _ _ (V m c main_arg1) f0 f3))⟩
  iexists _; isplitr
  swap
  · iexists _; isplitr
    swap; · iexact H8
    ipureintro; exact rfl
  ipureintro; exact ⟨t, st0_3 t, f3, st0_8 t, by omega, e3, Or.inl (congrArg ((st0_8 t).view.read (Elt F)) (runFirst_scales c _ h1 h2 h3 _ _ _ _ _ _ _ _ _ _ _ _ _ _ _ _ _ _ (V m c main_arg1) f0 f3))⟩

/-- The body at any point. -/
theorem sound_body (c : Dev nD) (t : Fin cfg0.N) :
    bodyPre m c t ⊢ wp frame (wpE (defs₀ (F := F)) Variants.none c none) Set.univ (bodyAt0 t) (fun _ => bodyPost m c t) := by
  rcases cond_cases t with ⟨ht, h1, h2, h3⟩ | ⟨ht0, ht, h1, h2, h3⟩ | ⟨ht, h1, h2, h3⟩
  · exact sound_first m c t ht h1 h2 h3
  · exact sound_mid m c t ht0 ht h1 h2 h3
  · exact sound_last m c t ht h1 h2 h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ held (Rl m c) := fun t => by
  rw [bigSep_W0, bigSep_W0, defs₀_row]
  exact triple_restated (sound_body m c t) rfl .rfl fun _ => .rfl

/-! ## The run and the frame -/

set_option maxHeartbeats 800000 in
/-- The host statements before the region leave the buffers at `V`. -/
theorem hmain' : Pipeline.HMain (Ix := Unit) (Name := ℕ) (U := Pipeline.UD sig nD τ) (Lvl := ℕ) cfgs (0 : Fin 1) (defs₀ (F := F)) Variants.none m (main (F := F)) (V m) :=
  Pipeline.hmain_prefix cfgs 0 defs₀ Variants.none m main hostOps0 hostOps0_sub hostOps0_fresh main_chain

set_option backward.isDefEq.respectTransparency.types false in
/-- The run: the arrays at the end are what the points' results make them, the rest is unchanged, and every counter is at zero. -/
theorem run_main : θ_run defs (onTc (τ := τ) (main (F := F))) (s₀ m ρ) (fun r => RDat.FramePost cfg0 (rdat m) (V m) r ∧ r.2.sem = fun _ => 0) :=
  Pipeline.RDat.θ_run_frame_dma (Q' := _) cfgs (0 : Fin 1) launch0 osem0 defs₀ Variants.none (rdat m) ownSemFacts0 H0 H0_sub m ρ main
    (hbody := fun c => (body_obligation m c).toRRel) (hshare := fun c w => (dats m 0 c).share_full (fun _ => rfl) w)
    (howed := fun _ _ => rfl) (V := V m) (hmain := hmain' m) (hA := A_eq m)
    (hin := fun c => Phi_in m c) (hout := fun c => Phi_out m c _)

/-- The frame: the arguments end as they began, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 0 rfl).trans ((A_eq m c 0).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelIdeal.Hand

end
-- ==== Proof.KernelIdeal.Lists.lean ====
/- What the body stores, store by store: each list of stores the body's runs leave is one list, written by recursion. -/
module

public import proofs.«01_k».proof.Proof.KernelIdeal.Frame

@[expose] public section

set_option maxRecDepth 100000

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-! ## The quantiser: one group of 128 columns -/

theorem inb_cols (n : ℕ) (h : n < 40) : ∀ a, (![0, 128 * n] : Fin 2 → ℕ) a + S384x128.size a ≤ S384x5120.size a := by
  intro a; fin_cases a
  · show 0 + 384 ≤ 384; omega
  · show 128 * n + 128 ≤ 5120; omega

theorem inb_scol (n : ℕ) (h : n < 40) : ∀ a, (![0, n] : Fin 2 → ℕ) a + S384x1.size a ≤ S384x40.size a := by
  intro a; fin_cases a
  · show 0 + 384 ≤ 384; omega
  · show n + 1 ≤ 40; omega

theorem inb_slot (s n : ℕ) (hs : s < 2) (h : n < 40) : ∀ a, (![s, 0, 128 * n] : Fin 3 → ℕ) a + S1x384x128.size a ≤ S2x384x5120.size a := by
  intro a; fin_cases a
  · show s + 1 ≤ 2; omega
  · show 0 + 384 ≤ 384; omega
  · show 128 * n + 128 ≤ 5120; omega

/-- Group `n` of the block: its 128 columns, as loaded. -/
def grp (c : Dev nD) (arg5 : Memref sig .tc .vmem S384x5120 .bf16) (f5 : Bf (F := F) c arg5) (n : ℕ) (h : n < 40) : Vec F S384x128 .bf16 :=
  View.readAt (Elt F) arg5.view (Rect.unit (s := S384x5120) ![0, 128 * n] S384x128.size (inb_cols n h)).toLoadRect f5

/-- The scale of a group, row by row. -/
def scaleG (x : Vec F S384x128 .bf16) : FVec F S384x1 .f32 := k0_pay11 (k0_pay9 x) (k0_pay10 x) 8388608#32
/-- The codes of a group. -/
def codesG (x : Vec F S384x128 .bf16) : FVec F S384x128 .fp8e4m3 := k0_pay12 (k0_pay8 x) (k0_pay9 x) (k0_pay10 x)
/-- The dequantised group. -/
def xsG (x : Vec F S384x128 .bf16) : FVec F S1x384x128 .bf16 := k0_pay13 (k0_pay8 x) (k0_pay9 x) (k0_pay10 x) 8388608#32

/-- The stores of the first `n` groups' codes. -/
def codesL (X : ∀ n : ℕ, n < 40 → Vec F S384x128 .bf16) : (n : ℕ) → n ≤ 40 → List (View.Piece (Elt F) S384x5120 .fp8e4m3)
  | 0, _ => []
  | n + 1, h => ⟨Rect.unit (s := S384x5120) ![0, 128 * n] S384x128.size (inb_cols n h), codesG (X n h)⟩ :: codesL X n (Nat.le_of_succ_le h)
/-- The stores of the first `n` groups' scales. -/
def scalesL (X : ∀ n : ℕ, n < 40 → Vec F S384x128 .bf16) : (n : ℕ) → n ≤ 40 → List (View.Piece (Elt F) S384x40 .f32)
  | 0, _ => []
  | n + 1, h => ⟨Rect.unit (s := S384x40) ![0, n] S384x1.size (inb_scol n h), scaleG (X n h)⟩ :: scalesL X n (Nat.le_of_succ_le h)
/-- The stores of the first `n` dequantised groups, into slot `s`. -/
def xsL (s : ℕ) (hs : s < 2) (X : ∀ n : ℕ, n < 40 → Vec F S384x128 .bf16) : (n : ℕ) → n ≤ 40 → List (View.Piece (Elt F) S2x384x5120 .bf16)
  | 0, _ => []
  | n + 1, h => ⟨Rect.unit (s := S2x384x5120) ![s, 0, 128 * n] S1x384x128.size (inb_slot s n hs h), xsG (X n h)⟩ :: xsL s hs X n (Nat.le_of_succ_le h)

theorem first_codes (c : Dev nD) (arg5 : Memref sig .tc .vmem S384x5120 .bf16) (f5 : Bf (F := F) c arg5) :
    runFirst.sl.H9_40 c arg5 f5 = codesL (grp c arg5 f5) 40 le_rfl := by sl_kernel_rfl
theorem mid_codes (c : Dev nD) (arg5 : Memref sig .tc .vmem S384x5120 .bf16) (f5 : Bf (F := F) c arg5) :
    runMid.sl.H9_40 c arg5 f5 = codesL (grp c arg5 f5) 40 le_rfl := by sl_kernel_rfl
theorem first_scales (c : Dev nD) (arg5 : Memref sig .tc .vmem S384x5120 .bf16) (f5 : Bf (F := F) c arg5) :
    runFirst.sl.H10_40 c arg5 f5 = scalesL (grp c arg5 f5) 40 le_rfl := by sl_kernel_rfl
theorem mid_scales (c : Dev nD) (arg5 : Memref sig .tc .vmem S384x5120 .bf16) (f5 : Bf (F := F) c arg5) :
    runMid.sl.H10_40 c arg5 f5 = scalesL (grp c arg5 f5) 40 le_rfl := by sl_kernel_rfl
theorem first_xs (c : Dev nD) (arg5 : Memref sig .tc .vmem S384x5120 .bf16) (f5 : Bf (F := F) c arg5) :
    runFirst.sl.Hx_40 c arg5 f5 = xsL 0 Nat.zero_lt_two (grp c arg5 f5) 40 le_rfl := by sl_kernel_rfl
theorem mid_xs10 (c : Dev nD) (i : grid0.Coords) (h2 : k0_cond2 i = 1#1) (arg5 : Memref sig .tc .vmem S384x5120 .bf16) (f5 : Bf (F := F) c arg5) :
    runMid.sl.Hx_10 c i h2 arg5 f5 = xsL ((i 0).val % 2) (Nat.mod_lt _ Nat.zero_lt_two) (grp c arg5 f5) 10 (by decide) := by sl_kernel_rfl
theorem mid_xs20 (c : Dev nD) (i : grid0.Coords) (h2 : k0_cond2 i = 1#1) (arg5 : Memref sig .tc .vmem S384x5120 .bf16) (f5 : Bf (F := F) c arg5) :
    runMid.sl.Hx_20 c i h2 arg5 f5 = xsL ((i 0).val % 2) (Nat.mod_lt _ Nat.zero_lt_two) (grp c arg5 f5) 20 (by decide) := by sl_kernel_rfl
theorem mid_xs30 (c : Dev nD) (i : grid0.Coords) (h2 : k0_cond2 i = 1#1) (arg5 : Memref sig .tc .vmem S384x5120 .bf16) (f5 : Bf (F := F) c arg5) :
    runMid.sl.Hx_30 c i h2 arg5 f5 = xsL ((i 0).val % 2) (Nat.mod_lt _ Nat.zero_lt_two) (grp c arg5 f5) 30 (by decide) := by sl_kernel_rfl
theorem mid_xs (c : Dev nD) (i : grid0.Coords) (h2 : k0_cond2 i = 1#1) (arg5 : Memref sig .tc .vmem S384x5120 .bf16) (f5 : Bf (F := F) c arg5) :
    runMid.sl.Hx_40 c i h2 arg5 f5 = xsL ((i 0).val % 2) (Nat.mod_lt _ Nat.zero_lt_two) (grp c arg5 f5) 40 le_rfl := by sl_kernel_rfl

end Cert.KernelIdeal.Hand
-- ==== Proof.KernelIdeal.Proj.lean ====
/- What the projection stores: the three results of a block from the dequantised block, the dequantised weight and the gains. -/
module

public import proofs.«01_k».proof.Proof.KernelIdeal.Lists

@[expose] public section

set_option maxRecDepth 100000

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-- A block times 512 rows of the weight, transposed. -/
def T512 (x : Vec F S1x384x5120 .bf16) (w : Vec F S512x5120 .bf16) : FVec F S384x512 .f32 := k0_pay1578 x w
/-- The sum of squares of each row of a tile. -/
def ssq (T : FVec F S384x512 .f32) : FVec F S384x1 .f32 :=
  shapeCast S384x1 (multiReduction .add [1] S384 (mulf T T) 0x00000000#32 reduces_S384x512_S384 (.inl rfl) rfl) shapeCasts_S384_S384x1
/-- The three tiles of the query projection, as stored side by side. -/
def yL (T0 T1 T2 : FVec F S384x512 .f32) : List (View.Piece (Elt F) S384x1536 .f32) :=
  [⟨Rect.unit (s := S384x1536) ![0, 1024] S384x512.size inb_S384x1536_S384x512_0_1024, shapeCast S384x512 T2 shapeCasts_S384x512_S384x512⟩,
   ⟨Rect.unit (s := S384x1536) ![0, 512] S384x512.size inb_S384x1536_S384x512_0_512, shapeCast S384x512 T1 shapeCasts_S384x512_S384x512⟩,
   ⟨Rect.unit (s := S384x1536) ![0, 0] S384x512.size inb_S384x1536_S384x512_0_0, shapeCast S384x512 T0 shapeCasts_S384x512_S384x512⟩]
/-- The query result of a block from its three tiles and the gain. -/
def qOut (T0 T1 T2 : FVec F S384x512 .f32) (g : Vec F S1x1536 .bf16) : FVec F S384x1536 .bf16 :=
  k0_pay1579 (addf (addf (ssq T0) (ssq T1)) (ssq T2))
    (yM.view.readCov (yL T0 T1 T2) (Rect.unit (s := S384x1536) ![0, 0] S384x1536.size inb_S384x1536_S384x1536_0_0).toLoadRect) g

/-- The other slot, as loaded. -/
def xld (c : Dev nD) (i : grid0.Coords) (h : ∀ a, k0_off1 i a + S1x384x5120.size a ≤ S2x384x5120.size a) (f : Bf (F := F) c xsM) : Vec F S1x384x5120 .bf16 :=
  View.readAt (Elt F) xsM.view (Rect.unit (s := S2x384x5120) (k0_off1 i) S1x384x5120.size h).toLoadRect f
theorem inb_w512 (r : ℕ) (h : r + 512 ≤ 2112) : ∀ a, (![r, 0] : Fin 2 → ℕ) a + S512x5120.size a ≤ S2112x5120.size a := by
  intro a; fin_cases a
  · exact h
  · show 0 + 5120 ≤ 5120; omega
/-- 512 rows of the dequantised weight from row `r`, as loaded. -/
def wld (c : Dev nD) (fw : Bf (F := F) c wsM) (r : ℕ) (h : r + 512 ≤ 2112) : Vec F S512x5120 .bf16 :=
  View.readAt (Elt F) wsM.view (Rect.unit (s := S2112x5120) ![r, 0] S512x5120.size (inb_w512 r h)).toLoadRect fw
/-- The last 64 rows of the dequantised weight, as loaded. -/
def wld64 (c : Dev nD) (fw : Bf (F := F) c wsM) : Vec F S64x5120 .bf16 :=
  View.readAt (Elt F) wsM.view (Rect.unit (s := S2112x5120) ![2048, 0] S64x5120.size inb_S2112x5120_S64x5120_2048_0).toLoadRect fw

theorem off42_eq (i : grid0.Coords) : k0_off42 i = k0_off1 i := rfl
/-- What the slot this point fills holds after its first `n` groups. -/
def xsAt (c : Dev nD) (i : grid0.Coords) (arg5 : Memref sig .tc .vmem S384x5120 .bf16) (f5 : Bf (F := F) c arg5) (fx : Bf (F := F) c xsM) (n : ℕ) (h : n ≤ 40) : Bf (F := F) c xsM :=
  xsM.view.writes (Elt F) fx (xsL ((i 0).val % 2) (Nat.mod_lt _ Nat.zero_lt_two) (grp c arg5 f5) n h)

theorem mid_k (c : Dev nD) (i : grid0.Coords) (h2 : k0_cond2 i = 1#1) (arg5 : Memref sig .tc .vmem S384x5120 .bf16) (f5 : Bf (F := F) c arg5)
    (fw : Bf (F := F) c wsM) (fx : Bf (F := F) c xsM) :
    runMid.sl.H8_1 c i h2 arg5 f5 fw fx = [⟨Rect.unit (s := S384x64) ![0, 0] S384x64.size inb_S384x64_S384x64_0_0,
      k0_pay5 (xld c i (k0_off1_inb i h2) (xsAt c i arg5 f5 fx 40 (by decide))) (wld64 c fw)⟩] := by sl_kernel_rfl
theorem mid_c (c : Dev nD) (i : grid0.Coords) (h2 : k0_cond2 i = 1#1) (arg4 : Memref sig .tc .vmem S1x512 .bf16) (arg5 : Memref sig .tc .vmem S384x5120 .bf16)
    (f4 : Bf (F := F) c arg4) (f5 : Bf (F := F) c arg5) (fw : Bf (F := F) c wsM) (fx : Bf (F := F) c xsM) :
    runMid.sl.H7_1 c i h2 arg4 arg5 f4 f5 fw fx = [⟨Rect.unit (s := S384x512) ![0, 0] S384x512.size inb_S384x512_S384x512_0_0,
      k0_pay6 (T512 (xld c i (k0_off1_inb i h2) (xsAt c i arg5 f5 fx 30 (by decide))) (wld c fw 1536 (by decide)))
        (View.readAt (Elt F) arg4.view (Rect.unit (s := S1x512) ![0, 0] S1x512.size inb_S1x512_S1x512_0_0).toLoadRect f4)⟩] := by sl_kernel_rfl
theorem mid_q (c : Dev nD) (i : grid0.Coords) (h2 : k0_cond2 i = 1#1) (arg3 : Memref sig .tc .vmem S1x1536 .bf16) (arg5 : Memref sig .tc .vmem S384x5120 .bf16)
    (f3 : Bf (F := F) c arg3) (f5 : Bf (F := F) c arg5) (fw : Bf (F := F) c wsM) (fx : Bf (F := F) c xsM) :
    runMid.sl.H6_1 c i h2 arg3 arg5 f3 f5 fw fx = [⟨Rect.unit (s := S384x1536) ![0, 0] S384x1536.size inb_S384x1536_S384x1536_0_0,
      qOut (T512 (xld c i (k0_off1_inb i h2) (xsAt c i arg5 f5 fx 0 (by decide))) (wld c fw 0 (by decide)))
        (T512 (xld c i (k0_off1_inb i h2) (xsAt c i arg5 f5 fx 10 (by decide))) (wld c fw 512 (by decide)))
        (T512 (xld c i (k0_off1_inb i h2) (xsAt c i arg5 f5 fx 20 (by decide))) (wld c fw 1024 (by decide)))
        (View.readAt (Elt F) arg3.view (Rect.unit (s := S1x1536) ![0, 0] S1x1536.size inb_S1x1536_S1x1536_0_0).toLoadRect f3)⟩] := by sl_kernel_rfl
theorem last_k (c : Dev nD) (i : grid0.Coords) (h3 : k0_cond3 i = 1#1) (fw : Bf (F := F) c wsM) (fx : Bf (F := F) c xsM) :
    runLast.sl.H8_1 c i h3 fw fx = [⟨Rect.unit (s := S384x64) ![0, 0] S384x64.size inb_S384x64_S384x64_0_0,
      k0_pay5 (xld c i (k0_off42_inb i h3) fx) (wld64 c fw)⟩] := by sl_kernel_rfl
theorem last_c (c : Dev nD) (i : grid0.Coords) (h3 : k0_cond3 i = 1#1) (arg4 : Memref sig .tc .vmem S1x512 .bf16)
    (f4 : Bf (F := F) c arg4) (fw : Bf (F := F) c wsM) (fx : Bf (F := F) c xsM) :
    runLast.sl.H7_1 c i h3 arg4 f4 fw fx = [⟨Rect.unit (s := S384x512) ![0, 0] S384x512.size inb_S384x512_S384x512_0_0,
      k0_pay6 (T512 (xld c i (k0_off42_inb i h3) fx) (wld c fw 1536 (by decide)))
        (View.readAt (Elt F) arg4.view (Rect.unit (s := S1x512) ![0, 0] S1x512.size inb_S1x512_S1x512_0_0).toLoadRect f4)⟩] := by sl_kernel_rfl
theorem last_q (c : Dev nD) (i : grid0.Coords) (h3 : k0_cond3 i = 1#1) (arg3 : Memref sig .tc .vmem S1x1536 .bf16)
    (f3 : Bf (F := F) c arg3) (fw : Bf (F := F) c wsM) (fx : Bf (F := F) c xsM) :
    runLast.sl.H6_1 c i h3 arg3 f3 fw fx = [⟨Rect.unit (s := S384x1536) ![0, 0] S384x1536.size inb_S384x1536_S384x1536_0_0,
      qOut (T512 (xld c i (k0_off42_inb i h3) fx) (wld c fw 0 (by decide))) (T512 (xld c i (k0_off42_inb i h3) fx) (wld c fw 512 (by decide)))
        (T512 (xld c i (k0_off42_inb i h3) fx) (wld c fw 1024 (by decide)))
        (View.readAt (Elt F) arg3.view (Rect.unit (s := S1x1536) ![0, 0] S1x1536.size inb_S1x1536_S1x1536_0_0).toLoadRect f3)⟩] := by sl_kernel_rfl

end Cert.KernelIdeal.Hand
-- ==== Proof.KernelIdeal.WLists.lean ====
/- The weight tiles the body dequantises at the first point: the copies that stage the weight, and the stores, by recursion. -/
module

public import proofs.«01_k».proof.Proof.KernelIdeal.Frame

@[expose] public section

set_option maxRecDepth 100000

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F] [Named F]

theorem inb_half (s : ℕ) (h : s < 2) : ∀ a, (![s, 0, 0] : Fin 3 → ℕ) a + S1x256x5120.size a ≤ S2x256x5120.size a := by
  intro a; fin_cases a
  · show s + 1 ≤ 2; omega
  · show 0 + 256 ≤ 256; omega
  · show 0 + 5120 ≤ 5120; omega
theorem inb_rows (k : ℕ) (h : k < 8) : ∀ a, (![256 * k, 0] : Fin 2 → ℕ) a + S256x5120.size a ≤ S2112x5120.size a := by
  intro a; fin_cases a
  · show 256 * k + 256 ≤ 2112; omega
  · show 0 + 5120 ≤ 5120; omega
theorem inb_tail : ∀ a, (![0, 0, 0] : Fin 3 → ℕ) a + S1x64x5120.size a ≤ S2x256x5120.size a := by decide
theorem inb_last : ∀ a, (![2048, 0] : Fin 2 → ℕ) a + S64x5120.size a ≤ S2112x5120.size a := by decide
theorem inb_sc (b g : ℕ) (hb : b < 17) (hg : g < 40) : ∀ a, (![b, g] : Fin 2 → ℕ) a + S1x1.size a ≤ S17x40.size a := by
  intro a; fin_cases a
  · show b + 1 ≤ 17; omega
  · show g + 1 ≤ 40; omega
theorem inb_tile (b g : ℕ) (hb : b < 16) (hg : g < 40) : ∀ a, (![128 * b, 128 * g] : Fin 2 → ℕ) a + S128x128.size a ≤ S2112x5120.size a := by
  intro a; fin_cases a
  · show 128 * b + 128 ≤ 2112; omega
  · show 128 * g + 128 ≤ 5120; omega
theorem inb_tile16 (g : ℕ) (hg : g < 40) : ∀ a, (![2048, 128 * g] : Fin 2 → ℕ) a + S64x128.size a ≤ S2112x5120.size a := by
  intro a; fin_cases a
  · show 2048 + 64 ≤ 2112; omega
  · show 128 * g + 128 ≤ 5120; omega
theorem inb_ld (s r g : ℕ) (hs : s < 2) (hr : r < 2) (hg : g < 40) :
    ∀ a, (![s, 128 * r, 128 * g] : Fin 3 → ℕ) a + S1x128x128.size a ≤ S2x256x5120.size a := by
  intro a; fin_cases a
  · show s + 1 ≤ 2; omega
  · show 128 * r + 128 ≤ 256; omega
  · show 128 * g + 128 ≤ 5120; omega
theorem inb_ld16 (g : ℕ) (hg : g < 40) : ∀ a, (![0, 0, 128 * g] : Fin 3 → ℕ) a + S1x64x128.size a ≤ S2x256x5120.size a := by
  intro a; fin_cases a
  · show 0 + 1 ≤ 2; omega
  · show 0 + 64 ≤ 256; omega
  · show 128 * g + 128 ≤ 5120; omega

/-- Slot `s` of the staging scratch. -/
abbrev half (s : ℕ) (h : s < 2) : Memref sig .tc .vmem S256x5120 .fp8e4m3 :=
  (stM.slice (Rect.unit (s := S2x256x5120) ![s, 0, 0] S1x256x5120.size (inb_half s h)) (fun _ => rfl)).squeeze S256x5120 squeezes_S1x256x5120_S256x5120
/-- The first 64 rows of slot 0. -/
abbrev tailHalf : Memref sig .tc .vmem S64x5120 .fp8e4m3 :=
  (stM.slice (Rect.unit (s := S2x256x5120) ![0, 0, 0] S1x64x5120.size inb_tail) (fun _ => rfl)).squeeze S64x5120 squeezes_S1x64x5120_S64x5120

/-- The `k`-th 256 rows of the weight, as copied. -/
def wrows (c : Dev nD) (f1 : Bf (F := F) c wM) (k : ℕ) (h : k < 8) : S256x5120.Idx → Elt F .fp8e4m3 :=
  ReadAs.same.apply (View.read (Elt F) (wM.slice (Rect.unit (s := S2112x5120) ![256 * k, 0] S256x5120.size (inb_rows k h)) (fun _ => rfl)).view f1)
/-- The last 64 rows of the weight, as copied. -/
def wtail (c : Dev nD) (f1 : Bf (F := F) c wM) : S64x5120.Idx → Elt F .fp8e4m3 :=
  ReadAs.same.apply (View.read (Elt F) (wM.slice (Rect.unit (s := S2112x5120) ![2048, 0] S64x5120.size inb_last) (fun _ => rfl)).view f1)

/-- The staging scratch after the first `k` copies of 256 rows, each into the slot of its parity. -/
def stage (c : Dev nD) (f1 : Bf (F := F) c wM) (gs : Bf (F := F) c stM) : (k : ℕ) → k ≤ 8 → Bf (F := F) c stM
  | 0, _ => gs
  | k + 1, h => View.write (Elt F) (half (k % 2) (Nat.mod_lt _ Nat.zero_lt_two)).view (stage c f1 gs k (Nat.le_of_succ_le h)) (wrows c f1 k h) Finset.univ
/-- The staging scratch after all the copies. -/
def stageAll (c : Dev nD) (f1 : Bf (F := F) c wM) (gs : Bf (F := F) c stM) : Bf (F := F) c stM :=
  View.write (Elt F) tailHalf.view (stage c f1 gs 8 le_rfl) (wtail c f1) Finset.univ
/-- The staging scratch when the tiles of the `k`-th 256 rows are read: one copy ahead. -/
def staged (c : Dev nD) (f1 : Bf (F := F) c wM) (gs : Bf (F := F) c stM) (k : ℕ) : Bf (F := F) c stM :=
  if h : k + 2 ≤ 8 then stage c f1 gs (k + 2) h else stageAll c f1 gs

/-- The scale of tile `(b, g)`. -/
def wsc (c : Dev nD) (arg2 : Memref sig .tc .smem S17x40 .f32) (f2 : Bf (F := F) c arg2) (b g : ℕ) (hb : b < 17) (hg : g < 40) : Elt F .f32 :=
  View.readAt (Elt F) arg2.view (Rect.unit (s := S17x40) ![b, g] S1x1.size (inb_sc b g hb hg)).toLoadRect f2 (Shape.Idx.first (s := S1x1) (by decide))

/-- The first `n` tiles of 128 rows. -/
def wsL (c : Dev nD) (arg2 : Memref sig .tc .smem S17x40 .f32) (f1 : Bf (F := F) c wM) (f2 : Bf (F := F) c arg2) (gs : Bf (F := F) c stM) :
    (n : ℕ) → n ≤ 640 → List (View.Piece (Elt F) S2112x5120 .bf16)
  | 0, _ => []
  | n + 1, h => ⟨Rect.unit (s := S2112x5120) ![128 * (n / 40), 128 * (n % 40)] S128x128.size (inb_tile _ _ (by omega) (by omega)),
      k0_pay358 (wsc c arg2 f2 (n / 40) (n % 40) (by omega) (by omega))
        (View.readAt (Elt F) stM.view (Rect.unit (s := S2x256x5120) ![n / 80 % 2, 128 * (n / 40 % 2), 128 * (n % 40)] S1x128x128.size
            (inb_ld _ _ _ (by omega) (by omega) (by omega))).toLoadRect (staged c f1 gs (n / 80)))⟩
      :: wsL c arg2 f1 f2 gs n (Nat.le_of_succ_le h)
/-- All the tiles of 128 rows, then the first `n` of the 64 last rows. -/
def wtL (c : Dev nD) (arg2 : Memref sig .tc .smem S17x40 .f32) (f1 : Bf (F := F) c wM) (f2 : Bf (F := F) c arg2) (gs : Bf (F := F) c stM) :
    (n : ℕ) → n ≤ 40 → List (View.Piece (Elt F) S2112x5120 .bf16)
  | 0, _ => wsL c arg2 f1 f2 gs 640 le_rfl
  | n + 1, h => ⟨Rect.unit (s := S2112x5120) ![2048, 128 * n] S64x128.size (inb_tile16 _ h),
      k0_pay2 (wsc c arg2 f2 16 n (by omega) h)
        (View.readAt (Elt F) stM.view (Rect.unit (s := S2x256x5120) ![0, 0, 128 * n] S1x64x128.size (inb_ld16 _ h)).toLoadRect (stageAll c f1 gs))⟩
      :: wtL c arg2 f1 f2 gs n (Nat.le_of_succ_le h)

theorem first_ws (c : Dev nD) (arg2 : Memref sig .tc .smem S17x40 .f32) (f1 : Bf (F := F) c wM) (f2 : Bf (F := F) c arg2) (gs : Bf (F := F) c stM) :
    runFirst.sl.Hw_680 c arg2 f1 f2 gs = wtL c arg2 f1 f2 gs 40 le_rfl := by sl_kernel_rfl

end Cert.KernelIdeal.Hand
-- ==== Proof.KernelIdeal.Reads.lean ====
/- What the body's lists of stores leave at an index. -/
module

public import proofs.«01_k».proof.Proof.KernelIdeal.Proj
public import proofs.«01_k».proof.Proof.KernelIdeal.WLists
public import Idealize.ShloMosaic.Lib.ValueIdxCore
public import Idealize.ShloMosaic.Lib.WritesUnit

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F] [Named F]

/-- Of the codes' stores, column `y 1` reads its own group's. -/
theorem read_codesL {sp : Space} (v : View sig .tc sp S384x5120 .fp8e4m3) (f : v.ty.Contents (Elt F)) (X : ∀ n : ℕ, n < 40 → Vec F S384x128 .bf16) (r : Fin 384) (j : Fin 5120) :
    ∀ (n : ℕ) (h : n ≤ 40), j.val < 128 * n →
      v.read (Elt F) (v.writes (Elt F) f (codesL X n h)) (ix2 r j)
        = codesG (X (j.val / 128) (by omega)) (ix2 r (⟨j.val % 128, Nat.mod_lt _ (by decide)⟩ : Fin 128)) := by
  intro n
  induction n with
  | zero => intro h hj; omega
  | succ n ih =>
    intro h hj
    by_cases hn : j.val < 128 * n
    · rw [codesL, View.read_writes_cons_unit_of_not_mem v f _ _ _ _ rfl (1 : Fin 2) (.inl hn)]
      exact ih _ hn
    · have e : j.val / 128 = n := by omega
      subst e
      rw [codesL]
      refine View.read_writes_cons_unit_of_mem v f _ _ _ _ (ix2 r (⟨j.val % 128, Nat.mod_lt _ (by decide)⟩ : Fin 128)) rfl fun a => ?_
      fin_cases a
      · show r.val = 0 + r.val; omega
      · show j.val = 128 * (j.val / 128) + j.val % 128; omega

/-- Of the scales' stores, column `g` reads its own group's. -/
theorem read_scalesL {sp : Space} (v : View sig .tc sp S384x40 .f32) (f : v.ty.Contents (Elt F)) (X : ∀ n : ℕ, n < 40 → Vec F S384x128 .bf16) (r : Fin 384) (g : Fin 40) :
    ∀ (n : ℕ) (h : n ≤ 40), g.val < n →
      v.read (Elt F) (v.writes (Elt F) f (scalesL X n h)) (ix2 r g) = scaleG (X g.val g.isLt) (ix2 r (0 : Fin 1)) := by
  intro n
  induction n with
  | zero => intro h hj; omega
  | succ n ih =>
    intro h hj
    by_cases hn : g.val < n
    · rw [scalesL, View.read_writes_cons_unit_of_not_mem v f _ _ _ _ rfl (1 : Fin 2) (.inl hn)]
      exact ih _ hn
    · have e : g.val = n := by omega
      subst e
      rw [scalesL]
      refine View.read_writes_cons_unit_of_mem v f _ _ _ _ (ix2 r (0 : Fin 1)) rfl fun a => ?_
      fin_cases a
      · show r.val = 0 + r.val; omega
      · show g.val = g.val + 0; omega

/-- Of the dequantised groups' stores into slot `s`, column `j` of that slot reads its own group's. -/
theorem read_xsL {sp : Space} (v : View sig .tc sp S2x384x5120 .bf16) (f : v.ty.Contents (Elt F)) (s : ℕ) (hs : s < 2) (X : ∀ n : ℕ, n < 40 → Vec F S384x128 .bf16) (r : Fin 384) (j : Fin 5120) :
    ∀ (n : ℕ) (h : n ≤ 40), j.val < 128 * n →
      v.read (Elt F) (v.writes (Elt F) f (xsL s hs X n h)) (ix3 (⟨s, hs⟩ : Fin 2) r j)
        = xsG (X (j.val / 128) (by omega)) (ix3 (0 : Fin 1) r (⟨j.val % 128, Nat.mod_lt _ (by decide)⟩ : Fin 128)) := by
  intro n
  induction n with
  | zero => intro h hj; omega
  | succ n ih =>
    intro h hj
    by_cases hn : j.val < 128 * n
    · rw [xsL, View.read_writes_cons_unit_of_not_mem v f _ _ _ _ rfl (2 : Fin 3) (.inl hn)]
      exact ih _ hn
    · have e : j.val / 128 = n := by omega
      subst e
      rw [xsL]
      refine View.read_writes_cons_unit_of_mem v f _ _ _ _ (ix3 (0 : Fin 1) r (⟨j.val % 128, Nat.mod_lt _ (by decide)⟩ : Fin 128)) rfl fun a => ?_
      fin_cases a
      · show s = s + 0; omega
      · show r.val = 0 + r.val; omega
      · show j.val = 128 * (j.val / 128) + j.val % 128; omega

/-- The dequantised groups' stores into slot `s` leave the other slot as it was. -/
theorem read_xsL_other {sp : Space} (v : View sig .tc sp S2x384x5120 .bf16) (f : v.ty.Contents (Elt F)) (s : ℕ) (hs : s < 2) (X : ∀ n : ℕ, n < 40 → Vec F S384x128 .bf16)
    (s' : Fin 2) (hne : s'.val ≠ s) (r : Fin 384) (j : Fin 5120) :
    ∀ (n : ℕ) (h : n ≤ 40),
      v.read (Elt F) (v.writes (Elt F) f (xsL s hs X n h)) (ix3 s' r j) = v.read (Elt F) f (ix3 s' r j) := by
  intro n
  induction n with
  | zero => intro h; rfl
  | succ n ih =>
    intro h
    rw [xsL, View.read_writes_cons_unit_of_not_mem v f _ _ _ _ rfl (0 : Fin 3) (by show s'.val < s ∨ s + 1 ≤ s'.val; omega)]
    exact ih _

/-- The staged block the projection reads: the other slot. -/
theorem xld_apply (c : Dev nD) (i : grid0.Coords) (h : ∀ a, k0_off1 i a + S1x384x5120.size a ≤ S2x384x5120.size a) (f : Bf (F := F) c xsM)
    (r : Fin 384) (j : Fin 5120) :
    xld c i h f (ix3 (0 : Fin 1) r j) = xsM.view.read (Elt F) f (ix3 (⟨1 - (i 0).val % 2, by omega⟩ : Fin 2) r j) := by
  refine congrArg (xsM.view.read (Elt F) f) (funext fun a => Fin.ext ?_)
  have e := congrFun (off1_eq i) a
  refine (congrArg (· + 1 * ((ix3 (0 : Fin 1) r j : S1x384x5120.Idx) a).val) e).trans ?_
  fin_cases a
  · show 1 - (i 0).val % 2 + 1 * 0 = 1 - (i 0).val % 2; omega
  · show 0 + 1 * r.val = r.val; omega
  · show 0 + 1 * j.val = j.val; omega

/-- While a point fills its own slot, what the projection reads is the other slot as the point found it. -/
theorem xld_xsAt (c : Dev nD) (i : grid0.Coords) (h : ∀ a, k0_off1 i a + S1x384x5120.size a ≤ S2x384x5120.size a)
    (arg5 : Memref sig .tc .vmem S384x5120 .bf16) (f5 : Bf (F := F) c arg5) (fx : Bf (F := F) c xsM) (n : ℕ) (hn : n ≤ 40) :
    xld c i h (xsAt c i arg5 f5 fx n hn) = xld c i h fx := by
  funext y
  rw [eq_ix3 y, show y 0 = (0 : Fin 1) from Fin.ext (Nat.lt_one_iff.mp (y 0).isLt)]
  refine (xld_apply c i h _ (y 1) (y 2)).trans (.trans ?_ (xld_apply c i h _ (y 1) (y 2)).symm)
  exact read_xsL_other xsM.view fx _ _ _ _ (by show 1 - (i 0).val % 2 ≠ (i 0).val % 2; omega) _ _ n hn

/-- A group's element is the block's. -/
theorem grp_apply (c : Dev nD) (arg5 : Memref sig .tc .vmem S384x5120 .bf16) (f5 : Bf (F := F) c arg5) (n : ℕ) (h : n < 40) (r : Fin 384) (j : Fin 128) :
    grp c arg5 f5 n h (ix2 r j) = arg5.view.read (Elt F) f5 (ix2 r (⟨128 * n + j.val, by omega⟩ : Fin 5120)) := by
  refine congrArg (arg5.view.read (Elt F) f5) (funext fun a => Fin.ext ?_)
  fin_cases a
  · show 0 + 1 * r.val = r.val; omega
  · show 128 * n + 1 * j.val = 128 * n + j.val; omega

/-! ## The weight -/

/-- A load of 512 rows of the weight from row `o`. -/
theorem wld_apply (c : Dev nD) (fw : Bf (F := F) c wsM) (o : ℕ) (h : o + 512 ≤ 2112) (r : Fin 512) (j : Fin 5120) :
    wld c fw o h (ix2 r j) = wsM.view.read (Elt F) fw (ix2 (⟨o + r.val, by omega⟩ : Fin 2112) j) := by
  refine congrArg (wsM.view.read (Elt F) fw) (funext fun a => Fin.ext ?_)
  fin_cases a
  · show o + 1 * r.val = o + r.val; omega
  · show 0 + 1 * j.val = j.val; omega
/-- The load of the last 64 rows of the weight. -/
theorem wld64_apply (c : Dev nD) (fw : Bf (F := F) c wsM) (r : Fin 64) (j : Fin 5120) :
    wld64 c fw (ix2 r j) = wsM.view.read (Elt F) fw (ix2 (⟨2048 + r.val, by omega⟩ : Fin 2112) j) := by
  refine congrArg (wsM.view.read (Elt F) fw) (funext fun a => Fin.ext ?_)
  fin_cases a
  · show 2048 + 1 * r.val = 2048 + r.val; omega
  · show 0 + 1 * j.val = j.val; omega

/-- A tile's scale is the scale array's element. -/
theorem wsc_apply (c : Dev nD) (arg2 : Memref sig .tc .smem S17x40 .f32) (f2 : Bf (F := F) c arg2) (b g : ℕ) (hb : b < 17) (hg : g < 40) :
    wsc c arg2 f2 b g hb hg = arg2.view.read (Elt F) f2 (ix2 (⟨b, hb⟩ : Fin 17) (⟨g, hg⟩ : Fin 40)) := by
  refine congrArg (arg2.view.read (Elt F) f2) (funext fun a => Fin.ext ?_)
  fin_cases a
  · show b + 1 * 0 = b; omega
  · show g + 1 * 0 = g; omega

/-- The `k`-th copied rows are the weight's. -/
theorem wrows_apply (c : Dev nD) (f1 : Bf (F := F) c wM) (k : ℕ) (h : k < 8) (r : Fin 256) (j : Fin 5120) :
    wrows c f1 k h (ix2 r j) = wM.view.read (Elt F) f1 (ix2 (⟨256 * k + r.val, by omega⟩ : Fin 2112) j) := by
  refine congrArg (wM.view.read (Elt F) f1) (funext fun a => Fin.ext ?_)
  fin_cases a
  · show 256 * k + 1 * r.val = 256 * k + r.val; omega
  · show 0 + 1 * j.val = j.val; omega
theorem wtail_apply (c : Dev nD) (f1 : Bf (F := F) c wM) (r : Fin 64) (j : Fin 5120) :
    wtail c f1 (ix2 r j) = wM.view.read (Elt F) f1 (ix2 (⟨2048 + r.val, by omega⟩ : Fin 2112) j) := by
  refine congrArg (wM.view.read (Elt F) f1) (funext fun a => Fin.ext ?_)
  fin_cases a
  · show 2048 + 1 * r.val = 2048 + r.val; omega
  · show 0 + 1 * j.val = j.val; omega

end Cert.KernelIdeal.Hand
-- ==== Proof.KernelIdeal.WReads.lean ====
/- What the staging scratch holds after the copies of the weight's rows, and what the tiles' stores leave in the weight scratch. -/
module

public import proofs.«01_k».proof.Proof.KernelIdeal.Reads

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F] [Named F]

/-- Where an element of slot `s`, taken by itself, lies in the staging scratch. -/
theorem half_emb (s : ℕ) (h : s < 2) (r : Fin 256) (j : Fin 5120) :
    (half s h).view.emb (ix2 r j) = stM.view.emb (ix3 (⟨s, h⟩ : Fin 2) r j) := by
  have h1 : (half s h).view.emb (ix2 r j)
      = stM.view.emb ((Rect.unit (s := S2x256x5120) ![s, 0, 0] S1x256x5120.size (inb_half s h)).emb
          (Shape.reshapeEquiv squeezes_S1x256x5120_S256x5120.numel_eq (ix2 r j))) := rfl
  rw [h1, Shape.reshapeEquiv_cons_one]
  refine congrArg stM.view.emb (funext fun a => Fin.ext ?_)
  rw [Rect.emb_apply]
  match a with
  | ⟨0, _⟩ => show s + 1 * 0 = s; omega
  | ⟨1, _⟩ => show 0 + 1 * r.val = r.val; omega
  | ⟨2, _⟩ => show 0 + 1 * j.val = j.val; omega
theorem tail_emb (r : Fin 64) (j : Fin 5120) :
    tailHalf.view.emb (ix2 r j) = stM.view.emb (ix3 (0 : Fin 2) (⟨r.val, by omega⟩ : Fin 256) j) := by
  have h1 : tailHalf.view.emb (ix2 r j)
      = stM.view.emb ((Rect.unit (s := S2x256x5120) ![0, 0, 0] S1x64x5120.size inb_tail).emb
          (Shape.reshapeEquiv squeezes_S1x64x5120_S64x5120.numel_eq (ix2 r j))) := rfl
  rw [h1, Shape.reshapeEquiv_cons_one]
  refine congrArg stM.view.emb (funext fun a => Fin.ext ?_)
  rw [Rect.emb_apply]
  match a with
  | ⟨0, _⟩ => rfl
  | ⟨1, _⟩ => show 0 + 1 * r.val = r.val; omega
  | ⟨2, _⟩ => show 0 + 1 * j.val = j.val; omega

/-- A copy into slot `s` leaves its payload there. -/
theorem read_half_same (c : Dev nD) (f : Bf (F := F) c stM) (s : ℕ) (h : s < 2) (p : S256x5120.Idx → Elt F .fp8e4m3) (r : Fin 256) (j : Fin 5120) :
    stM.view.read (Elt F) (View.write (Elt F) (half s h).view f p Finset.univ) (ix3 (⟨s, h⟩ : Fin 2) r j) = p (ix2 r j) := by
  have e := congrFun (View.read_write_univ (v := (half s h).view) f p) (ix2 r j)
  rw [View.read_apply, half_emb] at e
  exact e
/-- A copy into slot `s` leaves the other slot as it was. -/
theorem read_half_other (c : Dev nD) (f : Bf (F := F) c stM) (s : ℕ) (h : s < 2) (p : S256x5120.Idx → Elt F .fp8e4m3) (s' : Fin 2) (hne : s'.val ≠ s) (r : Fin 256) (j : Fin 5120) :
    stM.view.read (Elt F) (View.write (Elt F) (half s h).view f p Finset.univ) (ix3 s' r j) = stM.view.read (Elt F) f (ix3 s' r j) := by
  rw [View.read_apply, View.read_apply]
  refine congrArg _ (View.write_of_not_mem (v := (half s h).view) f p _ fun hm => hne ?_)
  obtain ⟨y, -, hy⟩ := Finset.mem_map.mp hm
  obtain ⟨r', j', rfl⟩ : ∃ (r' : Fin 256) (j' : Fin 5120), y = ix2 r' j' := ⟨y 0, y 1, eq_ix2 y⟩
  rw [half_emb] at hy
  have := congrFun (stM.view.emb.injective hy) 0
  exact (congrArg Fin.val this).symm
theorem read_tail_same (c : Dev nD) (f : Bf (F := F) c stM) (p : S64x5120.Idx → Elt F .fp8e4m3) (r : Fin 64) (j : Fin 5120) :
    stM.view.read (Elt F) (View.write (Elt F) tailHalf.view f p Finset.univ) (ix3 (0 : Fin 2) (⟨r.val, by omega⟩ : Fin 256) j) = p (ix2 r j) := by
  have e := congrFun (View.read_write_univ (v := tailHalf.view) f p) (ix2 r j)
  rw [View.read_apply, tail_emb] at e
  exact e
theorem read_tail_other (c : Dev nD) (f : Bf (F := F) c stM) (p : S64x5120.Idx → Elt F .fp8e4m3) (r : Fin 256) (j : Fin 5120) :
    stM.view.read (Elt F) (View.write (Elt F) tailHalf.view f p Finset.univ) (ix3 (1 : Fin 2) r j) = stM.view.read (Elt F) f (ix3 (1 : Fin 2) r j) := by
  rw [View.read_apply, View.read_apply]
  refine congrArg _ (View.write_of_not_mem (v := tailHalf.view) f p _ fun hm => ?_)
  obtain ⟨y, -, hy⟩ := Finset.mem_map.mp hm
  obtain ⟨r', j', rfl⟩ : ∃ (r' : Fin 64) (j' : Fin 5120), y = ix2 r' j' := ⟨y 0, y 1, eq_ix2 y⟩
  rw [tail_emb] at hy
  have := congrArg Fin.val (congrFun (stM.view.emb.injective hy) 0)
  exact absurd this (by decide : ¬ (0 : ℕ) = 1)

/-- After `k + 1` copies the slot of `k`'s parity holds the `k`-th 256 rows. -/
theorem stage_last (c : Dev nD) (f1 : Bf (F := F) c wM) (gs : Bf (F := F) c stM) (k : ℕ) (h : k + 1 ≤ 8) (r : Fin 256) (j : Fin 5120) :
    stM.view.read (Elt F) (stage c f1 gs (k + 1) h) (ix3 (⟨k % 2, Nat.mod_lt _ Nat.zero_lt_two⟩ : Fin 2) r j)
      = wM.view.read (Elt F) f1 (ix2 (⟨256 * k + r.val, by omega⟩ : Fin 2112) j) := by
  rw [stage, read_half_same, wrows_apply]
/-- One copy later it still does. -/
theorem stage_next (c : Dev nD) (f1 : Bf (F := F) c wM) (gs : Bf (F := F) c stM) (k : ℕ) (h : k + 2 ≤ 8) (r : Fin 256) (j : Fin 5120) :
    stM.view.read (Elt F) (stage c f1 gs (k + 2) h) (ix3 (⟨k % 2, Nat.mod_lt _ Nat.zero_lt_two⟩ : Fin 2) r j)
      = wM.view.read (Elt F) f1 (ix2 (⟨256 * k + r.val, by omega⟩ : Fin 2112) j) := by
  rw [stage, read_half_other _ _ _ _ _ _ (by show k % 2 ≠ (k + 1) % 2; omega), stage_last]
/-- When the tiles of the `k`-th 256 rows are read, the slot of `k`'s parity holds them. -/
theorem staged_apply (c : Dev nD) (f1 : Bf (F := F) c wM) (gs : Bf (F := F) c stM) (k : ℕ) (h : k < 8) (r : Fin 256) (j : Fin 5120) :
    stM.view.read (Elt F) (staged c f1 gs k) (ix3 (⟨k % 2, Nat.mod_lt _ Nat.zero_lt_two⟩ : Fin 2) r j)
      = wM.view.read (Elt F) f1 (ix2 (⟨256 * k + r.val, by omega⟩ : Fin 2112) j) := by
  unfold staged
  by_cases hk : k + 2 ≤ 8
  · rw [dif_pos hk, stage_next]
  · obtain rfl : k = 7 := by omega
    rw [dif_neg hk, stageAll]
    exact (read_tail_other c _ _ r j).trans (stage_last c f1 gs 7 le_rfl r j)
/-- The last 64 rows, once copied. -/
theorem stageAll_apply (c : Dev nD) (f1 : Bf (F := F) c wM) (gs : Bf (F := F) c stM) (r : Fin 64) (j : Fin 5120) :
    stM.view.read (Elt F) (stageAll c f1 gs) (ix3 (0 : Fin 2) (⟨r.val, by omega⟩ : Fin 256) j)
      = wM.view.read (Elt F) f1 (ix2 (⟨2048 + r.val, by omega⟩ : Fin 2112) j) := by
  rw [stageAll, read_tail_same, wtail_apply]

end Cert.KernelIdeal.Hand
-- ==== Proof.Scalar.lean ====
/- The scale of a group and its inverse, at the extended reals: what the kernel computes from the exponent's bits, and what the reference states by powers. -/
module

public import proofs.«01_k».proof.KernelIdeal
public import Idealize.ShloMosaic.PureOps.Ideal.Laws
public import Idealize.ShloMosaic.PureOps.IdealRules

@[expose] public section

noncomputable section

namespace Cert.Scalar

open Idealize.ShloMosaic

/-- The exponent's bits of `a / 448`, as the kernel computes them. -/
def kBits (a : Ideal .f32) : BitVec 32 :=
  let t : Ideal .f32 := FloatOps.mulf a (Scalar.ofBits .f32 0x3B124925#32)
  let e : BitVec 32 := IntOp.shli .vector (IntOp.addi (FloatOps.fptosi 32 (FloatOps.floor (FloatOps.mulf (FloatOps.log t) (Named.named (F := Ideal) Cert.KernelIdeal.κ "inv_ln2" (φ := .f32) 0x3FB8AA3B#32)))) 127#32) 23#32
  let p : Ideal .f32 := FloatOps.ofBits .f32 e
  let b1 := Scalar.select (FloatOps.cmpf .olt t p) (IntOp.subi e 8388608#32) e
  let b2 := Scalar.select (FloatOps.cmpf .oge t (FloatOps.mulf (Scalar.ofBits .f32 0x40000000#32 : Ideal .f32) p)) (IntOp.addi b1 8388608#32) b1
  Scalar.select (FloatOps.cmpf .olt t (Scalar.ofBits .f32 0x00800000#32 : Ideal .f32)) 0#32 b2
/-- The scale from the bits. -/
def kScale (b : BitVec 32) : Ideal .f32 :=
  Scalar.select (IntOp.cmpi .eq b 0#32) (Scalar.ofBits .f32 0x3F800000#32) (FloatOps.ofBits .f32 (IntOp.addi b 8388608#32))
/-- The inverse of the scale from the bits. -/
def kInv (b : BitVec 32) : Ideal .f32 :=
  Scalar.select (IntOp.cmpi .eq b 0#32) (Scalar.ofBits .f32 0x3F800000#32) (FloatOps.ofBits .f32 (IntOp.subi 2122317824#32 b))

/-- The exponent of the scale, as the reference states it. -/
def rExp (a : Ideal .f32) : Ideal .f32 :=
  Scalar.select (FloatOps.cmpf .oeq a (FloatOps.ofBits .f32 0x00000000#32)) (FloatOps.ofBits .f32 0x00000000#32 : Ideal .f32)
    (FloatOps.addf (FloatOps.hostUnary .floor (FloatOps.hostDivf (FloatOps.hostUnary .log (FloatOps.mulf a (FloatOps.ofBits .f32 0x3B124925#32)))
      (FloatOps.hostUnary .log (FloatOps.ofBits .f32 0x40000000#32)))) (FloatOps.ofBits .f32 0x3F800000#32))
/-- The reference's scale. -/
def rScale (a : Ideal .f32) : Ideal .f32 := FloatOps.hostPowf (FloatOps.ofBits .f32 0x40000000#32) (rExp a)
/-- The reference's inverse scale. -/
def rInv (a : Ideal .f32) : Ideal .f32 := FloatOps.hostPowf (FloatOps.ofBits .f32 0x40000000#32) (FloatOps.negf (rExp a))

/-- The word of exponent field `n` and fraction zero. -/
@[irreducible] def word (n : ℕ) : BitVec 32 := BitVec.ofNat 32 (n * 8388608)

theorem word_parts : ∀ k : Fin 255, ((word k.val).extractLsb' 31 1 == 1#1) = false
    ∧ ((word k.val).extractLsb' 23 8).toNat = k.val ∧ ((word k.val).extractLsb' 0 23).toNat = 0 := by unfold word; decide +kernel
theorem word_shl : ∀ k : Fin 247, IntOp.shli .vector (IntOp.addi (BitVec.ofInt 32 ((k.val : ℤ) - 127)) 127#32) 23#32 = word k.val := by unfold word; decide +kernel
theorem word_next : ∀ k : Fin 247, 1 ≤ k.val → IntOp.cmpi .eq (word k.val) 0#32 = 0
    ∧ IntOp.addi (word k.val) 8388608#32 = word (k.val + 1) ∧ IntOp.subi 2122317824#32 (word k.val) = word (253 - k.val) := by unfold word; decide +kernel
theorem word_two : word 128 = 0x40000000#32 := by unfold word; decide
theorem word_one : word 127 = 0x3F800000#32 := by unfold word; decide
theorem word_min : word 1 = 0x00800000#32 := by unfold word; decide

/-- The word of exponent field `n` and fraction zero denotes `2 ^ (n - 127)`. -/
theorem ofBits_pow (n : ℕ) (h0 : 1 ≤ n) (h1 : n ≤ 254) : Ideal.ofBits .f32 (word n) = (((2 : ℝ) ^ ((n : ℤ) - 127) : ℝ) : EReal) := by
  obtain ⟨k1, k2, k3⟩ := word_parts ⟨n, by omega⟩
  simp only at k1 k2 k3
  simp only [Ideal.ofBits, Ideal.ieee, k1, k2, k3]
  rw [if_neg (by omega), if_neg (by omega)]
  congr 1
  norm_num
  rw [show ((n : ℤ) - 127) = 23 + ((n : ℤ) - 127 - 23) by ring, zpow_add₀ (by norm_num : (2 : ℝ) ≠ 0)]
  norm_num

theorem ofBits_two : Ideal.ofBits .f32 0x40000000#32 = ((2 : ℝ) : EReal) := by
  rw [← word_two, ofBits_pow 128 (by norm_num) (by norm_num)]
  norm_num
theorem ofBits_one : Ideal.ofBits .f32 0x3F800000#32 = ((1 : ℝ) : EReal) := by
  rw [← word_one, ofBits_pow 127 (by norm_num) (by norm_num)]
  norm_num
theorem ofBits_min : Ideal.ofBits .f32 0x00800000#32 = (((2 : ℝ) ^ (-126 : ℤ) : ℝ) : EReal) := by
  rw [← word_min, ofBits_pow 1 (by norm_num) (by norm_num)]
  norm_num
theorem ofBits_lo : Ideal.ofBits .f32 0x04E00000#32 = ((7 * (2 : ℝ) ^ (-120 : ℤ) : ℝ) : EReal) := by
  simp only [Ideal.ofBits, Ideal.ieee]
  have k1 : ((0x04E00000#32).extractLsb' 31 1 == 1#1) = false := by decide
  have k2 : ((0x04E00000#32).extractLsb' 23 8).toNat = 9 := by decide
  have k3 : ((0x04E00000#32).extractLsb' 0 23).toNat = 6291456 := by decide
  simp only [k1, k2, k3]
  norm_num
/-- The word nearest `1 / 448`. -/
theorem ofBits_inv448 : Ideal.ofBits .f32 0x3B124925#32 = ((9586981 * (2 : ℝ) ^ (-32 : ℤ) : ℝ) : EReal) := by
  simp only [Ideal.ofBits, Ideal.ieee]
  have k1 : ((0x3B124925#32).extractLsb' 31 1 == 1#1) = false := by decide
  have k2 : ((0x3B124925#32).extractLsb' 23 8).toNat = 118 := by decide
  have k3 : ((0x3B124925#32).extractLsb' 0 23).toNat = 1198373 := by decide
  simp only [k1, k2, k3]
  norm_num
/-- A word below infinity denotes a real below `2 ^ 128`. -/
theorem ofBits_hi : Ideal.ofBits .f32 0x7F7F0000#32 ≤ (((2 : ℝ) ^ (128 : ℤ) : ℝ) : EReal) := by
  simp only [Ideal.ofBits, Ideal.ieee]
  have k1 : ((0x7F7F0000#32).extractLsb' 31 1 == 1#1) = false := by decide
  have k2 : ((0x7F7F0000#32).extractLsb' 23 8).toNat = 254 := by decide
  have k3 : ((0x7F7F0000#32).extractLsb' 0 23).toNat = 8323072 := by decide
  simp only [k1, k2, k3]
  norm_num

/-- What is asked of a group's largest magnitude: zero, or finite and not too small. -/
def Ok (a : EReal) : Prop := a = 0 ∨ (Ideal.ofBits .f32 0x04E00000#32 ≤ a ∧ a ≤ Ideal.ofBits .f32 0x7F7F0000#32)

theorem named_inv_ln2 : Named.named (F := Ideal) Cert.KernelIdeal.κ "inv_ln2" (φ := .f32) 0x3FB8AA3B#32 = (((Real.log 2)⁻¹ : ℝ) : EReal) :=
  IdealRules.named_const.ideal_named_scalar _ _ _ _ rfl

/-- The bits of a zero group are zero. -/
theorem kBits_zero : kBits 0 = 0#32 := by
  unfold kBits
  simp only [Ideal.mulf_def, Ideal.cmpf_def, zero_mul]
  rw [Scalar.select, if_pos]
  show BitVec.ofBool (decide ((0 : EReal) < Ideal.ofBits .f32 0x00800000#32)) = 1
  rw [ofBits_min]
  have : (0 : EReal) < (((2 : ℝ) ^ (-126 : ℤ) : ℝ) : EReal) := by exact_mod_cast (by positivity : (0 : ℝ) < 2 ^ (-126 : ℤ))
  simp [this]

/-- The bits of a group that is not zero: the exponent field of its `t = a / 448`. -/
theorem kBits_pos (a : ℝ) (h0 : 7 * (2 : ℝ) ^ (-120 : ℤ) ≤ a) (h1 : a ≤ 2 ^ (128 : ℤ)) :
    ∃ n : ℕ, 1 ≤ n ∧ n ≤ 246 ∧ ⌊Real.log (a * (9586981 * 2 ^ (-32 : ℤ))) * (Real.log 2)⁻¹⌋ = (n : ℤ) - 127 ∧ kBits (a : EReal) = word n := by
  set t : ℝ := a * (9586981 * 2 ^ (-32 : ℤ)) with ht
  have ht0 : (2 : ℝ) ^ (-126 : ℤ) ≤ t := by
    refine le_trans ?_ (mul_le_mul_of_nonneg_right h0 (by positivity))
    norm_num
  have ht1 : t < (2 : ℝ) ^ (120 : ℤ) := by
    refine lt_of_le_of_lt (mul_le_mul_of_nonneg_right h1 (by positivity)) ?_
    norm_num
  have tpos : 0 < t := lt_of_lt_of_le (by positivity) ht0
  have l2 : 0 < Real.log 2 := Real.log_pos one_lt_two
  set E : ℤ := ⌊Real.log t * (Real.log 2)⁻¹⌋ with hE
  have hle : (2 : ℝ) ^ E ≤ t := by
    have := Int.floor_le (Real.log t * (Real.log 2)⁻¹)
    rw [← hE, ← div_eq_mul_inv, le_div_iff₀ l2] at this
    rw [← Real.rpow_intCast, Real.rpow_def_of_pos two_pos, mul_comm]
    exact (Real.le_log_iff_exp_le tpos).mp this
  have hlt : t < (2 : ℝ) ^ (E + 1) := by
    have := Int.lt_floor_add_one (Real.log t * (Real.log 2)⁻¹)
    rw [← hE, ← div_eq_mul_inv, div_lt_iff₀ l2] at this
    rw [← Real.rpow_intCast, Real.rpow_def_of_pos two_pos, mul_comm]
    push_cast
    exact (Real.log_lt_iff_lt_exp tpos).mp this
  have e1 : -126 < E + 1 := (zpow_lt_zpow_iff_right₀ (one_lt_two : (1 : ℝ) < 2)).mp (lt_of_le_of_lt ht0 hlt)
  have e2 : E < 120 := (zpow_lt_zpow_iff_right₀ (one_lt_two : (1 : ℝ) < 2)).mp (lt_of_le_of_lt hle ht1)
  obtain ⟨n, hn⟩ : ∃ n : ℕ, (n : ℤ) = E + 127 := ⟨(E + 127).toNat, Int.toNat_of_nonneg (by omega)⟩
  refine ⟨n, by omega, by omega, by omega, ?_⟩
  have hEn : E = (n : ℤ) - 127 := by omega
  have hw := word_shl ⟨n, by omega⟩
  simp only at hw
  have tE : (FloatOps.mulf (a : EReal) (Scalar.ofBits .f32 0x3B124925#32 : Ideal .f32) : Ideal .f32) = ((t : ℝ) : EReal) := by
    show (a : EReal) * Ideal.ofBits .f32 0x3B124925#32 = _
    rw [ofBits_inv448, ht, EReal.coe_mul a]
  have eE : (FloatOps.fptosi 32 (FloatOps.floor (FloatOps.mulf (FloatOps.log ((t : ℝ) : EReal) : Ideal .f32) (Named.named (F := Ideal) Cert.KernelIdeal.κ "inv_ln2" (φ := .f32) 0x3FB8AA3B#32)) : Ideal .f32) : BitVec 32)
      = BitVec.ofInt 32 ((n : ℤ) - 127) := by
    show Ideal.fptosi 32 (Ideal.liftRound Int.floor (Ideal.log ((t : ℝ) : EReal) * Named.named (F := Ideal) Cert.KernelIdeal.κ "inv_ln2" (φ := .f32) 0x3FB8AA3B#32)) = _
    rw [named_inv_ln2, Ideal.log_coe, if_neg (not_le.mpr tpos), ← EReal.coe_mul]
    show Ideal.fptosi 32 (((⌊Real.log t * (Real.log 2)⁻¹⌋ : ℤ) : ℝ) : EReal) = _
    rw [← hE, Ideal.fptosi, Ideal.toIntClamped_coe, Int.floor_intCast, Int.ceil_intCast, ite_self, hEn]
    congr 1
    norm_num
    omega
  unfold kBits
  simp only [tE, eE, hw]
  have pE : (FloatOps.ofBits .f32 (word n) : Ideal .f32) = (((2 : ℝ) ^ E : ℝ) : EReal) := by
    rw [hEn]; exact ofBits_pow n (by omega) (by omega)
  have c1 : FloatOps.cmpf .olt (((t : ℝ) : EReal) : Ideal .f32) (FloatOps.ofBits .f32 (word n) : Ideal .f32) = 0 := by
    rw [pE]
    show BitVec.ofBool (decide (((t : ℝ) : EReal) < (((2 : ℝ) ^ E : ℝ) : EReal))) = 0
    rw [decide_eq_false (by rw [EReal.coe_lt_coe_iff]; exact not_lt.mpr hle)]; rfl
  have c2 : FloatOps.cmpf .oge (((t : ℝ) : EReal) : Ideal .f32) (FloatOps.mulf (Scalar.ofBits .f32 0x40000000#32 : Ideal .f32) (FloatOps.ofBits .f32 (word n) : Ideal .f32)) = 0 := by
    rw [pE]
    show BitVec.ofBool (decide (Ideal.ofBits .f32 0x40000000#32 * (((2 : ℝ) ^ E : ℝ) : EReal) ≤ ((t : ℝ) : EReal))) = 0
    rw [ofBits_two, ← EReal.coe_mul, decide_eq_false (by rw [EReal.coe_le_coe_iff, ← zpow_one_add₀ (by norm_num : (2 : ℝ) ≠ 0), add_comm]; exact not_le.mpr hlt)]; rfl
  have c3 : FloatOps.cmpf .olt (((t : ℝ) : EReal) : Ideal .f32) (Scalar.ofBits .f32 0x00800000#32 : Ideal .f32) = 0 := by
    show BitVec.ofBool (decide (((t : ℝ) : EReal) < Ideal.ofBits .f32 0x00800000#32)) = 0
    rw [ofBits_min, decide_eq_false (by rw [EReal.coe_lt_coe_iff]; exact not_lt.mpr ht0)]; rfl
  rw [c1, c2, c3]
  simp only [Scalar.select, if_neg (show ¬ (0 : BitVec 1) = 1 by decide)]

theorem rExp_zero : rExp 0 = 0 := by
  unfold rExp
  show (if BitVec.ofBool (decide ((0 : EReal) = Ideal.ofBits .f32 0x00000000#32)) = 1 then Ideal.ofBits .f32 0x00000000#32 else _) = (0 : EReal)
  rw [Ideal.ofBits_zero_f32]; simp

theorem rExp_pos (a : ℝ) (h0 : 7 * (2 : ℝ) ^ (-120 : ℤ) ≤ a) (n : ℤ)
    (hn : ⌊Real.log (a * (9586981 * 2 ^ (-32 : ℤ))) * (Real.log 2)⁻¹⌋ = n) : rExp (a : EReal) = (((n + 1 : ℤ) : ℝ) : EReal) := by
  have apos : 0 < a := lt_of_lt_of_le (by positivity) h0
  have l2 : 0 < Real.log 2 := Real.log_pos one_lt_two
  unfold rExp
  show (if BitVec.ofBool (decide ((a : EReal) = Ideal.ofBits .f32 0x00000000#32)) = 1 then Ideal.ofBits .f32 0x00000000#32
    else Ideal.liftRound Int.floor (Ideal.div (Ideal.log ((a : EReal) * Ideal.ofBits .f32 0x3B124925#32)) (Ideal.log (Ideal.ofBits .f32 0x40000000#32))) + Ideal.ofBits .f32 0x3F800000#32) = _
  rw [Ideal.ofBits_zero_f32, decide_eq_false (by exact_mod_cast apos.ne'), if_neg (by decide), ofBits_inv448, ofBits_two, ofBits_one,
    ← EReal.coe_mul, Ideal.log_coe, Ideal.log_coe, if_neg (not_le.mpr (by positivity)), if_neg (by norm_num), Ideal.div,
    if_neg (by exact_mod_cast l2.ne'), ← EReal.coe_inv, ← EReal.coe_mul]
  show ((((⌊Real.log (a * (9586981 * 2 ^ (-32 : ℤ))) * (Real.log 2)⁻¹⌋ : ℤ) : ℝ) : EReal) + ((1 : ℝ) : EReal)) = _
  rw [hn, ← EReal.coe_add]; push_cast; rfl

theorem pow_two (e : ℤ) : Ideal.pow (Ideal.ofBits .f32 0x40000000#32) (((e : ℤ) : ℝ) : EReal) = (((2 : ℝ) ^ e : ℝ) : EReal) := by
  rw [ofBits_two]
  show ((Real.rpow 2 ((e : ℤ) : ℝ) : ℝ) : EReal) = _
  congr 1
  exact Real.rpow_intCast 2 e

theorem kScale_of (b : BitVec 32) (h : IntOp.cmpi .eq b 0#32 = 0) : kScale b = Ideal.ofBits .f32 (IntOp.addi b 8388608#32) := by
  rw [kScale, h, Scalar.select, if_neg (by decide)]; rfl
theorem kInv_of (b : BitVec 32) (h : IntOp.cmpi .eq b 0#32 = 0) : kInv b = Ideal.ofBits .f32 (IntOp.subi 2122317824#32 b) := by
  rw [kInv, h, Scalar.select, if_neg (by decide)]; rfl
theorem kScale_zero : kScale 0#32 = Ideal.ofBits .f32 0x3F800000#32 := by
  rw [kScale, show IntOp.cmpi .eq 0#32 0#32 = 1 from by decide, Scalar.select, if_pos rfl]; rfl
theorem kInv_zero : kInv 0#32 = Ideal.ofBits .f32 0x3F800000#32 := by
  rw [kInv, show IntOp.cmpi .eq 0#32 0#32 = 1 from by decide, Scalar.select, if_pos rfl]; rfl

/-- The kernel's scale and inverse are the reference's. -/
theorem scale_eq (a : EReal) (h : Ok a) : kScale (kBits a) = rScale a ∧ kInv (kBits a) = rInv a := by
  rcases h with rfl | ⟨h0, h1⟩
  · rw [kBits_zero, kScale_zero, kInv_zero]
    unfold rScale rInv
    rw [rExp_zero]
    have e0 : (0 : EReal) = (((0 : ℤ) : ℝ) : EReal) := by norm_num
    constructor
    · show Ideal.ofBits .f32 0x3F800000#32 = Ideal.pow (Ideal.ofBits .f32 0x40000000#32) 0
      rw [e0, pow_two, ofBits_one]; norm_num
    · show Ideal.ofBits .f32 0x3F800000#32 = Ideal.pow (Ideal.ofBits .f32 0x40000000#32) (-0)
      rw [neg_zero, e0, pow_two, ofBits_one]; norm_num
  · rw [ofBits_lo] at h0
    have h2 := h1.trans ofBits_hi
    induction a with
    | bot => exact absurd (le_bot_iff.mp h0) (EReal.coe_ne_bot _)
    | top => exact absurd (top_le_iff.mp h2) (EReal.coe_ne_top _)
    | coe a =>
      rw [EReal.coe_le_coe_iff] at h0 h2
      obtain ⟨n, n0, n1, hn, hb⟩ := kBits_pos a h0 h2
      rw [hb]
      unfold rScale rInv
      rw [rExp_pos a h0 _ hn]
      obtain ⟨w1, w2, w3⟩ := word_next ⟨n, by omega⟩ n0
      simp only at w1 w2 w3
      rw [kScale_of _ w1, kInv_of _ w1, w2, w3]
      constructor
      · show Ideal.ofBits .f32 (word (n + 1)) = Ideal.pow (Ideal.ofBits .f32 0x40000000#32) ((((n : ℤ) - 127 + 1 : ℤ) : ℝ) : EReal)
        rw [pow_two, ofBits_pow _ (by omega) (by omega)]
        congr 2; push_cast; ring
      · show Ideal.ofBits .f32 (word (253 - n)) = Ideal.pow (Ideal.ofBits .f32 0x40000000#32) (-((((n : ℤ) - 127 + 1 : ℤ) : ℝ) : EReal))
        rw [← EReal.coe_neg, ← Int.cast_neg, pow_two, ofBits_pow _ (by omega) (by omega)]
        congr 2; push_cast [Nat.cast_sub (by omega : n ≤ 253)]; ring

end Cert.Scalar
-- ==== Proof.Spec.lean ====
/- The results, row by row, at the extended reals: a group's codes and scale, the dequantised row, its projection, and the two normalisations. -/
module

public import proofs.«01_k».proof.Proof.Scalar

@[expose] public section

noncomputable section

namespace Cert.Spec

open Idealize.ShloMosaic

/-- A group's largest magnitude. -/
def amax (f : Fin 128 → EReal) : EReal := (Finset.univ : Finset (Fin 128)).fold max ⊥ fun k => max (f k) (-(f k))
/-- Group `g` of a row. -/
def grp (x : Fin 5120 → EReal) (g : Fin 40) : Fin 128 → EReal := fun k => x ⟨128 * g.val + k.val, by omega⟩
/-- The group of a column. -/
def gOf (j : Fin 5120) : Fin 40 := ⟨j.val / 128, by omega⟩
/-- Held between -448 and 448. -/
def clip (v : EReal) : EReal := min (Ideal.ofBits .f32 0x43E00000#32) (max (Ideal.ofBits .f32 0xC3E00000#32) v)
/-- A row's codes: each element times the inverse scale of its group, held between -448 and 448. -/
def code (inv : EReal → EReal) (x : Fin 5120 → EReal) (j : Fin 5120) : EReal := clip (x j * inv (amax (grp x (gOf j))))
/-- The dequantised row. -/
def deq (inv sc : EReal → EReal) (x : Fin 5120 → EReal) (j : Fin 5120) : EReal := code inv x j * sc (amax (grp x (gOf j)))
/-- The dequantised weight. -/
def wdeq (W : Fin 2112 → Fin 5120 → EReal) (S : Fin 17 → Fin 40 → EReal) (o : Fin 2112) (j : Fin 5120) : EReal :=
  W o j * S ⟨o.val / 128, by omega⟩ (gOf j)
/-- The projection of a row by one row of the weight. -/
def dot (x w : Fin 5120 → EReal) : EReal := ∑ j : Fin 5120, x j * w j
/-- An element of a normalised row, from the row's mean square. -/
def norm (y ms g : EReal) : EReal := y * Ideal.rsqrt (ms + Ideal.ofBits .f32 0x358637BD#32) * g

/-- The largest magnitude of every group of the row is zero, or finite and not too small. -/
def RowOk (x : Fin 5120 → EReal) : Prop := ∀ g : Fin 40, Scalar.Ok (amax (grp x g))

/-- The kernel's inverse and scale of a group. -/
def kI (a : EReal) : EReal := Scalar.kInv (Scalar.kBits a)
def kS (a : EReal) : EReal := Scalar.kScale (Scalar.kBits a)

theorem kS_eq (x : Fin 5120 → EReal) (h : RowOk x) (g : Fin 40) : kS (amax (grp x g)) = Scalar.rScale (amax (grp x g)) := (Scalar.scale_eq _ (h g)).1
theorem kI_eq (x : Fin 5120 → EReal) (h : RowOk x) (g : Fin 40) : kI (amax (grp x g)) = Scalar.rInv (amax (grp x g)) := (Scalar.scale_eq _ (h g)).2
theorem code_eq (x : Fin 5120 → EReal) (h : RowOk x) : code kI x = code Scalar.rInv x := funext fun j => by unfold code; rw [kI_eq x h]
theorem deq_eq (x : Fin 5120 → EReal) (h : RowOk x) : deq kI kS x = deq Scalar.rInv Scalar.rScale x := funext fun j => by
  unfold deq; rw [code_eq x h, kS_eq x h]

/-- Three sums of 512 terms are one of 1536. -/
theorem sum3 (f : Fin 1536 → EReal) :
    (∑ o : Fin 512, f ⟨o.val, by omega⟩) + (∑ o : Fin 512, f ⟨512 + o.val, by omega⟩) + (∑ o : Fin 512, f ⟨1024 + o.val, by omega⟩) = ∑ o : Fin 1536, f o := by
  have h := Fin.sum_univ_add (a := 1024) (b := 512) f
  have h' := Fin.sum_univ_add (a := 512) (b := 512) fun o : Fin 1024 => f (Fin.castAdd 512 o)
  rw [h, h']
  rfl

/-- Times `1 / 1536` is over 1536. -/
theorem mean_q (s : EReal) : s * ((1 / 1536 : ℝ) : EReal) = Ideal.div s (Ideal.ofBits .f32 0x44C00000#32) := by
  have e : Ideal.ofBits .f32 0x44C00000#32 = ((1536 : ℝ) : EReal) := by
    simp only [Ideal.ofBits, Ideal.ieee]
    have k1 : ((0x44C00000#32).extractLsb' 31 1 == 1#1) = false := by decide
    have k2 : ((0x44C00000#32).extractLsb' 23 8).toNat = 137 := by decide
    have k3 : ((0x44C00000#32).extractLsb' 0 23).toNat = 4194304 := by decide
    simp only [k1, k2, k3]
    norm_num
  rw [e, Ideal.div, if_neg (by norm_num), ← EReal.coe_inv, one_div]
/-- Times `2 ^ -9` is over 512. -/
theorem mean_c (s : EReal) : s * Ideal.ofBits .f32 0x3B000000#32 = Ideal.div s (Ideal.ofBits .f32 0x44000000#32) := by
  have e1 : Ideal.ofBits .f32 0x3B000000#32 = (((512 : ℝ)⁻¹ : ℝ) : EReal) := by
    rw [show (0x3B000000#32 : BitVec 32) = Scalar.word 118 from by unfold Scalar.word; decide, Scalar.ofBits_pow 118 (by norm_num) (by norm_num)]
    norm_num
  have e2 : Ideal.ofBits .f32 0x44000000#32 = ((512 : ℝ) : EReal) := by
    rw [show (0x44000000#32 : BitVec 32) = Scalar.word 136 from by unfold Scalar.word; decide, Scalar.ofBits_pow 136 (by norm_num) (by norm_num)]
    norm_num
  rw [e1, e2, Ideal.div, if_neg (by norm_num), ← EReal.coe_inv]

end Cert.Spec
-- ==== Proof.KernelIdeal.Values.lean ====
/- What the body's pieces compute, at the extended reals, element by element. -/
module

public import proofs.«01_k».proof.Proof.KernelIdeal.WReads
public import proofs.«01_k».proof.Proof.Spec
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

theorem ofBits_ninf : Ideal.ofBits .f32 0xFF800000#32 = ⊥ := by
  simp only [Ideal.ofBits, Ideal.ieee]
  have k1 : ((0xFF800000#32).extractLsb' 31 1 == 1#1) = true := by decide
  have k2 : ((0xFF800000#32).extractLsb' 23 8).toNat = 255 := by decide
  have k3 : ((0xFF800000#32).extractLsb' 0 23).toNat = 0 := by decide
  simp only [k1, k2, k3]
  norm_num

/-- A column vector spread along rows, read at an index. -/
theorem spread_apply {b : ℕ} {e : EltTy} (v : S384x1.Idx → Elt Ideal e) (h : S384x1.Broadcasts (⟨2, ![384, b]⟩ : Shape)) (r : Fin 384) (j : Fin b) :
    broadcastTo (⟨2, ![384, b]⟩ : Shape) v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- The row maximum of magnitudes, as the body takes it. -/
theorem rowmax_apply (x : FVec Ideal S384x128 .f32) (r : Fin 384) :
    shapeCast S384x1 (multiReduction .maximumf [1] S384 x 0xFF800000#32 reduces_S384x128_S384 (.inl rfl) rfl) shapeCasts_S384_S384x1 (ix2 r (0 : Fin 1))
      = (Finset.univ : Finset (Fin 128)).fold max ⊥ fun k => x (ix2 r k) := by
  refine (shapeCast_a_a1_apply _ _ r 0).trans ?_
  refine (Ideal.multiReduction_maximumf_single x _ _ _ _ _).trans ?_
  rw [show (FloatOps.ofBits .f32 0xFF800000#32 : Ideal .f32) = ⊥ from ofBits_ninf]
  refine congrArg (Finset.fold max ⊥ · _) (funext fun k => congrArg x (funext fun a => Fin.ext ?_))
  match a with
  | ⟨0, _⟩ => rfl
  | ⟨1, _⟩ => rfl
/-- The row sum. -/
theorem rowsum_apply (x : FVec Ideal S384x512 .f32) (r : Fin 384) :
    shapeCast S384x1 (multiReduction .add [1] S384 x 0x00000000#32 reduces_S384x512_S384 (.inl rfl) rfl) shapeCasts_S384_S384x1 (ix2 r (0 : Fin 1))
      = ∑ k : Fin 512, x (ix2 r k) := by
  refine (shapeCast_a_a1_apply _ _ r 0).trans ?_
  refine (Ideal.multiReduction_add_single x _ _ _ _ _).trans ?_
  refine Finset.sum_congr rfl fun k _ => congrArg x (funext fun a => Fin.ext ?_)
  match a with
  | ⟨0, _⟩ => rfl
  | ⟨1, _⟩ => rfl

/-- The exponent's bits of a group's row. -/
theorem pay9_apply (x : Vec Ideal S384x128 .bf16) (r : Fin 384) : k0_pay9 x (ix2 r (0 : Fin 1)) = Scalar.kBits (Spec.amax fun k => x (ix2 r k)) := by
  have e : shapeCast S384x1 (multiReduction .maximumf [1] S384 (extf .f32 (absf (k0_pay8 x)) bitsLt_bf16_f32 : FVec Ideal S384x128 .f32) 0xFF800000#32 reduces_S384x128_S384 (.inl rfl) rfl) shapeCasts_S384_S384x1 (ix2 r (0 : Fin 1))
      = Spec.amax fun k => x (ix2 r k) := by
    rw [rowmax_apply, k0_pay8]
    simp only [shapeCast_self]
    rfl
  rw [← e]
  rfl
theorem pay10_apply (x : Vec Ideal S384x128 .bf16) (r : Fin 384) :
    k0_pay10 x (ix2 r (0 : Fin 1)) = IntOp.cmpi .eq (Scalar.kBits (Spec.amax fun k => x (ix2 r k))) 0#32 := by
  rw [← pay9_apply]; rfl
/-- The scale is picked by the comparison from the constant one and the bits. -/
theorem pay11_apply (b : IVec S384x1 32) (z : IVec S384x1 1) (k : BitVec 32) (y : S384x1.Idx) :
    k0_pay11 (F := Ideal) b z k y = Scalar.select (z y) (Scalar.ofBits .f32 0x3F800000#32 : Ideal .f32) (FloatOps.ofBits .f32 (IntOp.addi (b y) k)) := rfl
theorem scaleG_apply (x : Vec Ideal S384x128 .bf16) (r : Fin 384) : scaleG x (ix2 r (0 : Fin 1)) = Spec.kS (Spec.amax fun k => x (ix2 r k)) := by
  rw [scaleG, pay11_apply, pay9_apply, pay10_apply, Spec.kS, Scalar.kScale]
/-- The inverse of the scale, as a column. -/
def invG (b : IVec S384x1 32) (z : IVec S384x1 1) (k : BitVec 32) : FVec Ideal S384x1 .bf16 :=
  truncf .bf16 (select z (broadcast S384x1 (Scalar.ofBits .f32 0x3F800000#32 : Ideal .f32)) (bitcastToFloat .f32 (subi (broadcast S384x1 k) b))) bitsLt_bf16_f32
theorem invG_apply (b : IVec S384x1 32) (z : IVec S384x1 1) (k : BitVec 32) (y : S384x1.Idx) :
    invG b z k y = Scalar.select (z y) (Scalar.ofBits .f32 0x3F800000#32 : Ideal .f32) (FloatOps.ofBits .f32 (IntOp.subi k (b y))) := rfl
/-- The codes of a group, from the bits. -/
theorem pay12_eq (x : FVec Ideal S384x128 .bf16) (b : IVec S384x1 32) (z : IVec S384x1 1) (k : BitVec 32) (hk : k = 2122317824#32) (r : Fin 384) (j : Fin 128) :
    k0_pay12 x b z (ix2 r j) = Spec.clip (x (ix2 r j) * broadcastTo S384x128 (invG b z k) broadcasts_S384x1_S384x128 (ix2 r j)) := by
  rw [k0_pay12, ← hk]; rfl
theorem codesG_apply (x : Vec Ideal S384x128 .bf16) (r : Fin 384) (j : Fin 128) :
    codesG x (ix2 r j) = Spec.clip (x (ix2 r j) * Spec.kI (Spec.amax fun k => x (ix2 r k))) := by
  have e := spread_apply (e := .bf16) (invG (k0_pay9 x) (k0_pay10 x) 2122317824#32) broadcasts_S384x1_S384x128 r j
  rw [invG_apply, pay9_apply, pay10_apply] at e
  rw [codesG, pay12_eq _ _ _ _ rfl, e, k0_pay8, shapeCast_self, Spec.kI, Scalar.kInv]
/-- The dequantised group. -/
theorem pay13_apply (x : FVec Ideal S384x128 .bf16) (b : IVec S384x1 32) (z : IVec S384x1 1) (k : BitVec 32) (r : Fin 384) (j : Fin 128) :
    k0_pay13 x b z k (ix3 (0 : Fin 1) r j) = k0_pay12 x b z (ix2 r j) * k0_pay11 (F := Ideal) b z k (ix2 r (0 : Fin 1)) := by
  rw [k0_pay13]
  refine (shapeCast_ab_1ab_apply _ _ 0 r j).trans ?_
  have e := spread_apply (e := .bf16) (truncf .bf16 (k0_pay11 (F := Ideal) b z k) bitsLt_bf16_f32) broadcasts_S384x1_S384x128 r j
  exact congrArg (k0_pay12 x b z (ix2 r j) * ·) e
theorem xsG_apply (x : Vec Ideal S384x128 .bf16) (r : Fin 384) (j : Fin 128) :
    xsG x (ix3 (0 : Fin 1) r j) = Spec.clip (x (ix2 r j) * Spec.kI (Spec.amax fun k => x (ix2 r k))) * Spec.kS (Spec.amax fun k => x (ix2 r k)) := by
  rw [xsG, pay13_apply, ← codesG_apply, ← scaleG_apply, codesG, scaleG]

/-- A block's row times a row of the weight. -/
theorem T512_apply (x : Vec Ideal S1x384x5120 .bf16) (w : Vec Ideal S512x5120 .bf16) (r : Fin 384) (o : Fin 512) :
    T512 x w (ix2 r o) = Spec.dot (fun j => x (ix3 (0 : Fin 1) r j)) (fun j => w (ix2 o j)) := by
  have e := Ideal.matmul_transposedRhs_apply (M := 384) (K := 5120) (N := 512) (φ₁ := .bf16) (φ₂ := .bf16) none
    (shapeCast S384x5120 x shapeCasts_S1x384x5120_S384x5120) w (constant S384x512 .f32 0x00000000#32) r o
  refine Eq.trans (b := _) ?_ (e.trans ?_)
  · rfl
  · show Ideal.ofBits .f32 0x00000000#32 + _ = _
    rw [Ideal.ofBits_zero_f32, zero_add]
    exact Finset.sum_congr rfl fun j _ => congrArg (· * _) (shapeCast_1ab_ab_apply x _ r j)
theorem pay5_apply (x : Vec Ideal S1x384x5120 .bf16) (w : Vec Ideal S64x5120 .bf16) (r : Fin 384) (o : Fin 64) :
    k0_pay5 x w (ix2 r o) = Spec.dot (fun j => x (ix3 (0 : Fin 1) r j)) (fun j => w (ix2 o j)) := by
  have e := Ideal.matmul_transposedRhs_apply (M := 384) (K := 5120) (N := 64) (φ₁ := .bf16) (φ₂ := .bf16) none
    (shapeCast S384x5120 x shapeCasts_S1x384x5120_S384x5120) w (constant S384x64 .f32 0x00000000#32) r o
  refine Eq.trans (b := _) ?_ (e.trans ?_)
  · rfl
  · show Ideal.ofBits .f32 0x00000000#32 + _ = _
    rw [Ideal.ofBits_zero_f32, zero_add]
    exact Finset.sum_congr rfl fun j _ => congrArg (· * _) (shapeCast_1ab_ab_apply x _ r j)
/-- A tile's sum of squares. -/
theorem ssq_apply (T : FVec Ideal S384x512 .f32) (r : Fin 384) : ssq T (ix2 r (0 : Fin 1)) = ∑ o : Fin 512, T (ix2 r o) * T (ix2 r o) := by
  rw [ssq, rowsum_apply]; rfl
/-- The compressed result from its tile and the gain. -/
theorem pay6_apply (T : FVec Ideal S384x512 .f32) (g : Vec Ideal S1x512 .bf16) (r : Fin 384) (o : Fin 512) :
    k0_pay6 T g (ix2 r o) = Spec.norm (T (ix2 r o)) ((∑ o : Fin 512, T (ix2 r o) * T (ix2 r o)) * Ideal.ofBits .f32 0x3B000000#32) (g (ix2 (0 : Fin 1) o)) := by
  rw [k0_pay6]
  simp only [shapeCast_self]
  have e1 := spread_apply (e := .f32) (rsqrt (addf (mulf (ssq T) (broadcast S384x1 (Scalar.ofBits .f32 0x3B000000#32 : Ideal .f32))) (broadcast S384x1 (Scalar.ofBits .f32 0x358637BD#32 : Ideal .f32)))) broadcasts_S384x1_S384x512 r o
  have e2 := broadcastTo_1b_ab_apply (extf .f32 g bitsLt_bf16_f32 : FVec Ideal S1x512 .f32) broadcasts_S1x512_S384x512 r o
  rw [← ssq_apply]
  exact congrArg₂ (fun a b : EReal => T (ix2 r o) * a * b) e1 e2
/-- The three tiles side by side. -/
def cat3 (T0 T1 T2 : FVec Ideal S384x512 .f32) (r : Fin 384) (o : Fin 1536) : EReal :=
  if h : o.val < 512 then T0 (ix2 r (⟨o.val, h⟩ : Fin 512))
  else if h' : o.val < 1024 then T1 (ix2 r (⟨o.val - 512, by omega⟩ : Fin 512)) else T2 (ix2 r (⟨o.val - 1024, by omega⟩ : Fin 512))
theorem yL_apply (T0 T1 T2 : FVec Ideal S384x512 .f32) (f : yM.view.ty.Contents (Elt Ideal)) (r : Fin 384) (o : Fin 1536) :
    yM.view.read (Elt Ideal) (yM.view.writes (Elt Ideal) f (yL T0 T1 T2)) (ix2 r o) = cat3 T0 T1 T2 r o := by
  unfold yL cat3
  simp only [shapeCast_self]
  by_cases h : o.val < 512
  · rw [dif_pos h, View.read_writes_cons_unit_of_not_mem yM.view f _ _ _ _ rfl (1 : Fin 2) (.inl (by show o.val < 1024; omega)),
      View.read_writes_cons_unit_of_not_mem yM.view f _ _ _ _ rfl (1 : Fin 2) (.inl h)]
    refine View.read_writes_cons_unit_of_mem yM.view f _ _ _ _ (ix2 r (⟨o.val, h⟩ : Fin 512)) rfl fun a => ?_
    fin_cases a
    · show r.val = 0 + r.val; omega
    · show o.val = 0 + o.val; omega
  · rw [dif_neg h]
    by_cases h' : o.val < 1024
    · rw [dif_pos h', View.read_writes_cons_unit_of_not_mem yM.view f _ _ _ _ rfl (1 : Fin 2) (.inl h')]
      refine View.read_writes_cons_unit_of_mem yM.view f _ _ _ _ (ix2 r (⟨o.val - 512, by omega⟩ : Fin 512)) rfl fun a => ?_
      fin_cases a
      · show r.val = 0 + r.val; omega
      · show o.val = 512 + (o.val - 512); omega
    · rw [dif_neg h']
      refine View.read_writes_cons_unit_of_mem yM.view f _ _ _ _ (ix2 r (⟨o.val - 1024, by omega⟩ : Fin 512)) rfl fun a => ?_
      fin_cases a
      · show r.val = 0 + r.val; omega
      · show o.val = 1024 + (o.val - 1024); omega
theorem named_inv_q : Named.named (F := Ideal) Cert.KernelIdeal.κ "inv_q" (φ := .f32) 0x3A2AAAAB#32 = ((1 / 1536 : ℝ) : EReal) :=
  IdealRules.named_const.ideal_named_scalar _ _ _ _ rfl
/-- The query result from its tiles and the gain. -/
theorem qOut_apply (T0 T1 T2 : FVec Ideal S384x512 .f32) (g : Vec Ideal S1x1536 .bf16) (r : Fin 384) (o : Fin 1536) :
    qOut T0 T1 T2 g (ix2 r o) = Spec.norm (cat3 T0 T1 T2 r o)
      (((∑ o : Fin 512, T0 (ix2 r o) * T0 (ix2 r o)) + (∑ o : Fin 512, T1 (ix2 r o) * T1 (ix2 r o)) + (∑ o : Fin 512, T2 (ix2 r o) * T2 (ix2 r o))) * ((1 / 1536 : ℝ) : EReal))
      (g (ix2 (0 : Fin 1) o)) := by
  rw [qOut, k0_pay1579]
  simp only [shapeCast_self]
  have e0 : yM.view.readCov (yL T0 T1 T2) (Rect.unit (s := S384x1536) ![0, 0] S384x1536.size inb_S384x1536_S384x1536_0_0).toLoadRect (ix2 r o) = cat3 T0 T1 T2 r o := by
    refine Eq.trans (congrArg (yM.view.read (Elt Ideal) (yM.view.writes (Elt Ideal) yM.view.junk (yL T0 T1 T2))) (funext fun a => Fin.ext ?_)) (yL_apply T0 T1 T2 _ r o)
    fin_cases a
    · show 0 + 1 * r.val = r.val; omega
    · show 0 + 1 * o.val = o.val; omega
  have e1 := spread_apply (e := .f32) (rsqrt (addf (mulf (addf (addf (ssq T0) (ssq T1)) (ssq T2)) (broadcast S384x1 (Named.named (F := Ideal) Cert.KernelIdeal.κ "inv_q" (φ := .f32) 0x3A2AAAAB#32))) (broadcast S384x1 (Scalar.ofBits .f32 0x358637BD#32 : Ideal .f32)))) broadcasts_S384x1_S384x1536 r o
  have e2 := broadcastTo_1b_ab_apply (extf .f32 g bitsLt_bf16_f32 : FVec Ideal S1x1536 .f32) broadcasts_S1x1536_S384x1536 r o
  rw [← e0, ← ssq_apply, ← ssq_apply, ← ssq_apply, ← named_inv_q]
  exact congrArg₂ (fun a b : EReal => yM.view.readCov (yL T0 T1 T2) (Rect.unit (s := S384x1536) ![0, 0] S384x1536.size inb_S384x1536_S384x1536_0_0).toLoadRect (ix2 r o) * a * b) e1 e2

end Cert.KernelIdeal.Hand
-- ==== Proof.KernelIdeal.WFull.lean ====
/- The dequantised weight: every element is the weight's times its tile's scale. -/
module

public import proofs.«01_k».proof.Proof.KernelIdeal.WReads
public import proofs.«01_k».proof.Proof.KernelIdeal.Values

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

/-- A tile of 128 rows: the weight times the scale. -/
theorem pay358_apply (s : Elt Ideal .f32) (w : Vec Ideal S1x128x128 .fp8e4m3) (r j : Fin 128) : k0_pay358 s w (ix2 r j) = w (ix3 (0 : Fin 1) r j) * s := by
  rw [k0_pay358, shapeCast_self]
  exact congrArg (· * s) (shapeCast_1ab_ab_apply _ _ r j)
/-- A tile of 64 rows: the weight times the scale. -/
theorem pay2_apply (s : Elt Ideal .f32) (w : Vec Ideal S1x64x128 .fp8e4m3) (r : Fin 64) (j : Fin 128) : k0_pay2 s w (ix2 r j) = w (ix3 (0 : Fin 1) r j) * s := by
  rw [k0_pay2, shapeCast_self]
  exact congrArg (· * s) (shapeCast_1ab_ab_apply _ _ r j)

/-- A load of 128 rows of a slot of the staging scratch. -/
theorem ld_apply (c : Dev nD) (f : Bf (F := Ideal) c stM) (s r0 g : ℕ) (hs : s < 2) (hr : r0 < 2) (hg : g < 40) (r j : Fin 128) :
    View.readAt (Elt Ideal) stM.view (Rect.unit (s := S2x256x5120) ![s, 128 * r0, 128 * g] S1x128x128.size (inb_ld s r0 g hs hr hg)).toLoadRect f (ix3 (0 : Fin 1) r j)
      = stM.view.read (Elt Ideal) f (ix3 (⟨s, hs⟩ : Fin 2) (⟨128 * r0 + r.val, by omega⟩ : Fin 256) (⟨128 * g + j.val, by omega⟩ : Fin 5120)) := by
  refine congrArg (stM.view.read (Elt Ideal) f) (funext fun a => Fin.ext ?_)
  fin_cases a
  · show s + 1 * 0 = s; omega
  · show 128 * r0 + 1 * r.val = 128 * r0 + r.val; omega
  · show 128 * g + 1 * j.val = 128 * g + j.val; omega
theorem ld16_apply (c : Dev nD) (f : Bf (F := Ideal) c stM) (g : ℕ) (hg : g < 40) (r : Fin 64) (j : Fin 128) :
    View.readAt (Elt Ideal) stM.view (Rect.unit (s := S2x256x5120) ![0, 0, 128 * g] S1x64x128.size (inb_ld16 g hg)).toLoadRect f (ix3 (0 : Fin 1) r j)
      = stM.view.read (Elt Ideal) f (ix3 (0 : Fin 2) (⟨r.val, by omega⟩ : Fin 256) (⟨128 * g + j.val, by omega⟩ : Fin 5120)) := by
  refine congrArg (stM.view.read (Elt Ideal) f) (funext fun a => Fin.ext ?_)
  fin_cases a
  · show 0 + 1 * 0 = 0; omega
  · show 0 + 1 * r.val = r.val; omega
  · show 128 * g + 1 * j.val = 128 * g + j.val; omega

variable (c : Dev nD) (arg2 : Memref sig .tc .smem S17x40 .f32) (f1 : Bf (F := Ideal) c wM) (f2 : Bf (F := Ideal) c arg2) (gs : Bf (F := Ideal) c stM)

/-- The weight, row by row. -/
def Wt (o : Fin 2112) (j : Fin 5120) : EReal := wM.view.read (Elt Ideal) f1 (ix2 o j)
/-- The tiles' scales. -/
def Sc (b : Fin 17) (g : Fin 40) : EReal := arg2.view.read (Elt Ideal) f2 (ix2 b g)

/-- Tile `n` of 128 rows at one of its elements. -/
theorem tile_apply (n : ℕ) (h : n < 640) (o : Fin 2112) (j : Fin 5120) (ho : o.val / 128 = n / 40) (hj : j.val / 128 = n % 40) :
    k0_pay358 (wsc c arg2 f2 (n / 40) (n % 40) (by omega) (by omega))
        (View.readAt (Elt Ideal) stM.view (Rect.unit (s := S2x256x5120) ![n / 80 % 2, 128 * (n / 40 % 2), 128 * (n % 40)] S1x128x128.size
            (inb_ld _ _ _ (by omega) (by omega) (by omega))).toLoadRect (staged c f1 gs (n / 80)))
        (ix2 (⟨o.val % 128, Nat.mod_lt _ (by decide)⟩ : Fin 128) (⟨j.val % 128, Nat.mod_lt _ (by decide)⟩ : Fin 128))
      = Spec.wdeq (Wt c f1) (Sc c arg2 f2) o j := by
  rw [pay358_apply, ld_apply c _ (n / 80 % 2) (n / 40 % 2) (n % 40) (by omega) (by omega) (by omega), staged_apply c f1 gs (n / 80) (by omega), wsc_apply]
  have e1 : (⟨256 * (n / 80) + (128 * (n / 40 % 2) + o.val % 128), by omega⟩ : Fin 2112) = o := Fin.ext (show 256 * (n / 80) + (128 * (n / 40 % 2) + o.val % 128) = o.val by omega)
  have e2 : (⟨128 * (n % 40) + j.val % 128, by omega⟩ : Fin 5120) = j := Fin.ext (show 128 * (n % 40) + j.val % 128 = j.val by omega)
  have e3 : (⟨n / 40, by omega⟩ : Fin 17) = ⟨o.val / 128, by omega⟩ := Fin.ext ho.symm
  have e4 : (⟨n % 40, by omega⟩ : Fin 40) = Spec.gOf j := Fin.ext hj.symm
  rw [e1, e2, e3, e4]; rfl
theorem tile16_apply (n : ℕ) (h : n < 40) (o : Fin 2112) (j : Fin 5120) (ho : 2048 ≤ o.val) (hj : j.val / 128 = n) :
    k0_pay2 (wsc c arg2 f2 16 n (by omega) h)
        (View.readAt (Elt Ideal) stM.view (Rect.unit (s := S2x256x5120) ![0, 0, 128 * n] S1x64x128.size (inb_ld16 _ h)).toLoadRect (stageAll c f1 gs))
        (ix2 (⟨o.val - 2048, by omega⟩ : Fin 64) (⟨j.val % 128, Nat.mod_lt _ (by decide)⟩ : Fin 128))
      = Spec.wdeq (Wt c f1) (Sc c arg2 f2) o j := by
  rw [pay2_apply, ld16_apply c _ n h, stageAll_apply c f1 gs, wsc_apply]
  have e1 : (⟨2048 + (o.val - 2048), by omega⟩ : Fin 2112) = o := Fin.ext (show 2048 + (o.val - 2048) = o.val by omega)
  have e2 : (⟨128 * n + j.val % 128, by omega⟩ : Fin 5120) = j := Fin.ext (show 128 * n + j.val % 128 = j.val by omega)
  have e3 : (⟨16, by omega⟩ : Fin 17) = ⟨o.val / 128, by omega⟩ := Fin.ext (by show 16 = o.val / 128; omega)
  have e4 : (⟨n, h⟩ : Fin 40) = Spec.gOf j := Fin.ext hj.symm
  rw [e1, e2, e3, e4]; rfl

/-- Of the tiles of 128 rows, an element reads its own tile's. -/
theorem read_wsL {sp : Space} (v : View sig .tc sp S2112x5120 .bf16) (f : v.ty.Contents (Elt Ideal)) (o : Fin 2112) (j : Fin 5120) :
    ∀ (n : ℕ) (h : n ≤ 640), 40 * (o.val / 128) + j.val / 128 < n →
      v.read (Elt Ideal) (v.writes (Elt Ideal) f (wsL c arg2 f1 f2 gs n h)) (ix2 o j) = Spec.wdeq (Wt c f1) (Sc c arg2 f2) o j := by
  intro n
  induction n with
  | zero => intro h hj; omega
  | succ n ih =>
    intro h hj
    by_cases hn : 40 * (o.val / 128) + j.val / 128 < n
    · by_cases ho : o.val / 128 = n / 40
      · rw [wsL, View.read_writes_cons_unit_of_not_mem v f _ _ _ _ rfl (1 : Fin 2) (.inl (by show j.val < 128 * (n % 40); omega))]
        exact ih _ hn
      · rw [wsL, View.read_writes_cons_unit_of_not_mem v f _ _ _ _ rfl (0 : Fin 2) (.inl (by show o.val < 128 * (n / 40); omega))]
        exact ih _ hn
    · have e1 : o.val / 128 = n / 40 := by omega
      have e2 : j.val / 128 = n % 40 := by omega
      rw [wsL]
      refine (View.read_writes_cons_unit_of_mem v f _ _ _ _ (ix2 (⟨o.val % 128, Nat.mod_lt _ (by decide)⟩ : Fin 128) (⟨j.val % 128, Nat.mod_lt _ (by decide)⟩ : Fin 128)) rfl fun a => ?_).trans
        (tile_apply c arg2 f1 f2 gs n (by omega) o j e1 e2)
      fin_cases a
      · show o.val = 128 * (n / 40) + o.val % 128; omega
      · show j.val = 128 * (n % 40) + j.val % 128; omega
/-- Of all the tiles, an element reads its own tile's. -/
theorem read_wtL {sp : Space} (v : View sig .tc sp S2112x5120 .bf16) (f : v.ty.Contents (Elt Ideal)) (o : Fin 2112) (j : Fin 5120) :
    ∀ (n : ℕ) (h : n ≤ 40), (o.val < 2048 ∨ j.val / 128 < n) →
      v.read (Elt Ideal) (v.writes (Elt Ideal) f (wtL c arg2 f1 f2 gs n h)) (ix2 o j) = Spec.wdeq (Wt c f1) (Sc c arg2 f2) o j := by
  intro n
  induction n with
  | zero => intro h hj; exact read_wsL c arg2 f1 f2 gs v f o j 640 le_rfl (by omega)
  | succ n ih =>
    intro h hj
    by_cases ho : o.val < 2048
    · rw [wtL, View.read_writes_cons_unit_of_not_mem v f _ _ _ _ rfl (0 : Fin 2) (.inl (by show o.val < 2048; omega))]
      exact ih _ (.inl ho)
    by_cases hn : j.val / 128 < n
    · rw [wtL, View.read_writes_cons_unit_of_not_mem v f _ _ _ _ rfl (1 : Fin 2) (.inl (by show j.val < 128 * n; omega))]
      exact ih _ (.inr hn)
    · have e2 : j.val / 128 = n := by omega
      rw [wtL]
      refine (View.read_writes_cons_unit_of_mem v f _ _ _ _ (ix2 (⟨o.val - 2048, by omega⟩ : Fin 64) (⟨j.val % 128, Nat.mod_lt _ (by decide)⟩ : Fin 128)) rfl fun a => ?_).trans
        (tile16_apply c arg2 f1 f2 gs n (by omega) o j (by omega) e2)
      fin_cases a
      · show o.val = 2048 + (o.val - 2048); omega
      · show j.val = 128 * n + j.val % 128; omega

end Cert.KernelIdeal.Hand
-- ==== Proof.KernelIdeal.Rows.lean ====
/- The results the points leave, row by row, from the rows of the input, the weight, its scales and the gains. -/
module

public import proofs.«01_k».proof.Proof.KernelIdeal.WFull
public import proofs.«01_k».proof.Proof.KernelIdeal.Reads

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

/-! ## The blocks -/

theorem idx0 : ∀ t : Fin cfg0.N, ∀ a : Fin 2, (cfg0.win 0).index t a = (![0, 0] : Fin 2 → ℕ) a := by decide +kernel
theorem idx1 : ∀ t : Fin cfg0.N, ∀ a : Fin 2, (cfg0.win 1).index t a = (![0, 0] : Fin 2 → ℕ) a := by decide +kernel
theorem idx2 : ∀ t : Fin cfg0.N, ∀ a : Fin 2, (cfg0.win 2).index t a = (![0, 0] : Fin 2 → ℕ) a := by decide +kernel
theorem idx3 : ∀ t : Fin cfg0.N, ∀ a : Fin 2, (cfg0.win 3).index t a = (![min t.val 15, 0] : Fin 2 → ℕ) a := by decide +kernel
theorem idx4 : ∀ t : Fin cfg0.N, ∀ a : Fin 2, (cfg0.win 4).index t a = (![t.val - 1, 0] : Fin 2 → ℕ) a := by decide +kernel
theorem idx5 : ∀ t : Fin cfg0.N, ∀ a : Fin 2, (cfg0.win 5).index t a = (![t.val - 1, 0] : Fin 2 → ℕ) a := by decide +kernel
theorem idx6 : ∀ t : Fin cfg0.N, ∀ a : Fin 2, (cfg0.win 6).index t a = (![t.val - 1, 0] : Fin 2 → ℕ) a := by decide +kernel
theorem idx7 : ∀ t : Fin cfg0.N, ∀ a : Fin 2, (cfg0.win 7).index t a = (![min t.val 15, 0] : Fin 2 → ℕ) a := by decide +kernel
theorem idx8 : ∀ t : Fin cfg0.N, ∀ a : Fin 2, (cfg0.win 8).index t a = (![min t.val 15, 0] : Fin 2 → ℕ) a := by decide +kernel

variable (m : (ℓ : Loc nD τ sig) → Buf (Elt Ideal) ℓ)

/-- Row `R` of the input. -/
def xRow (c : Dev nD) (R : Fin 6144) (j : Fin 5120) : EReal := (V m c main_v2 : S6144x5120.Idx → EReal) (ix2 R j)
/-- The weight. -/
def wMat (c : Dev nD) (o : Fin 2112) (j : Fin 5120) : EReal := (V m c main_arg1 : S2112x5120.Idx → EReal) (ix2 o j)
/-- The weight's scales. -/
def sMat (c : Dev nD) (b : Fin 17) (g : Fin 40) : EReal := (V m c main_arg2 : S17x40.Idx → EReal) (ix2 b g)
/-- The query gain. -/
def qGain (c : Dev nD) (o : Fin 1536) : EReal := (V m c main_v0 : S1x1536.Idx → EReal) (ix2 (0 : Fin 1) o)
/-- The compressed rows' gain. -/
def cGain (c : Dev nD) (o : Fin 512) : EReal := (V m c main_v1 : S1x512.Idx → EReal) (ix2 (0 : Fin 1) o)

theorem iblk0_apply (c : Dev nD) (t : Fin cfg0.N) (b : Fin 17) (g : Fin 40) : iblk m c 0 t (ix2 b g) = sMat m c b g := by
  refine congrArg (V m c main_arg2 : S17x40.Idx → EReal) (funext fun a => Fin.ext ?_)
  refine ((cfg0.win 0).rect_emb_val t (ix2 b g) a).trans ?_
  rw [idx0]
  fin_cases a
  · show 0 * 17 + b.val = b.val; omega
  · show 0 * 40 + g.val = g.val; omega
theorem iblk1_apply (c : Dev nD) (t : Fin cfg0.N) (o : Fin 1536) : iblk m c 1 t (ix2 (0 : Fin 1) o) = qGain m c o := by
  refine congrArg (V m c main_v0 : S1x1536.Idx → EReal) (funext fun a => Fin.ext ?_)
  refine ((cfg0.win 1).rect_emb_val t (ix2 (0 : Fin 1) o) a).trans ?_
  rw [idx1]
  fin_cases a
  · show 0 * 1 + 0 = 0; omega
  · show 0 * 1536 + o.val = o.val; omega
theorem iblk2_apply (c : Dev nD) (t : Fin cfg0.N) (o : Fin 512) : iblk m c 2 t (ix2 (0 : Fin 1) o) = cGain m c o := by
  refine congrArg (V m c main_v1 : S1x512.Idx → EReal) (funext fun a => Fin.ext ?_)
  refine ((cfg0.win 2).rect_emb_val t (ix2 (0 : Fin 1) o) a).trans ?_
  rw [idx2]
  fin_cases a
  · show 0 * 1 + 0 = 0; omega
  · show 0 * 512 + o.val = o.val; omega
/-- Row `r` of block `n`. -/
def row (n : ℕ) (h : n < 16) (r : Fin 384) : Fin 6144 := ⟨384 * n + r.val, by omega⟩
theorem iblk3_apply (c : Dev nD) (t : Fin cfg0.N) (h : t.val < 16) (r : Fin 384) (j : Fin 5120) : iblk m c 3 t (ix2 r j) = xRow m c (row t.val h r) j := by
  refine congrArg (V m c main_v2 : S6144x5120.Idx → EReal) (funext fun a => Fin.ext ?_)
  refine ((cfg0.win 3).rect_emb_val t (ix2 r j) a).trans ?_
  rw [idx3]
  fin_cases a
  · show min t.val 15 * 384 + r.val = 384 * t.val + r.val; omega
  · show 0 * 5120 + j.val = j.val; omega

/-! ## The quantiser -/

section
variable (c : Dev nD) (arg5 : Memref sig .tc .vmem S384x5120 .bf16) (f5 : Bf (F := Ideal) c arg5)
/-- A row of the block, as staged. -/
def bRow (r : Fin 384) (j : Fin 5120) : EReal := arg5.view.read (Elt Ideal) f5 (ix2 r j)
theorem amax_grp (r : Fin 384) (n : ℕ) (h : n < 40) :
    (Spec.amax fun k => grp c arg5 f5 n h (ix2 r k)) = Spec.amax (Spec.grp (bRow c arg5 f5 r) ⟨n, h⟩) :=
  congrArg Spec.amax (funext fun k => grp_apply c arg5 f5 n h r k)
theorem grp_col (r : Fin 384) (j : Fin 5120) :
    grp c arg5 f5 (j.val / 128) (by omega) (ix2 r (⟨j.val % 128, Nat.mod_lt _ (by decide)⟩ : Fin 128)) = bRow c arg5 f5 r j := by
  rw [grp_apply]
  have e : (⟨128 * (j.val / 128) + j.val % 128, by omega⟩ : Fin 5120) = j := Fin.ext (show 128 * (j.val / 128) + j.val % 128 = j.val by omega)
  rw [e]; rfl
theorem codes_apply {sp : Space} (v : View sig .tc sp S384x5120 .fp8e4m3) (f : v.ty.Contents (Elt Ideal)) (r : Fin 384) (j : Fin 5120) :
    v.read (Elt Ideal) (v.writes (Elt Ideal) f (codesL (grp c arg5 f5) 40 le_rfl)) (ix2 r j) = Spec.code Spec.kI (bRow c arg5 f5 r) j := by
  rw [read_codesL v f _ r j 40 le_rfl (by omega), codesG_apply, amax_grp, grp_col]; rfl
theorem scales_apply {sp : Space} (v : View sig .tc sp S384x40 .f32) (f : v.ty.Contents (Elt Ideal)) (r : Fin 384) (g : Fin 40) :
    v.read (Elt Ideal) (v.writes (Elt Ideal) f (scalesL (grp c arg5 f5) 40 le_rfl)) (ix2 r g) = Spec.kS (Spec.amax (Spec.grp (bRow c arg5 f5 r) g)) := by
  rw [read_scalesL v f _ r g 40 le_rfl g.isLt, scaleG_apply, amax_grp]
theorem xs_apply {sp : Space} (v : View sig .tc sp S2x384x5120 .bf16) (f : v.ty.Contents (Elt Ideal)) (s : ℕ) (hs : s < 2) (r : Fin 384) (j : Fin 5120) :
    v.read (Elt Ideal) (v.writes (Elt Ideal) f (xsL s hs (grp c arg5 f5) 40 le_rfl)) (ix3 (⟨s, hs⟩ : Fin 2) r j) = Spec.deq Spec.kI Spec.kS (bRow c arg5 f5 r) j := by
  rw [read_xsL v f s hs _ r j 40 le_rfl (by omega), xsG_apply, amax_grp, grp_col]; rfl
end

/-- A staged block's row is the input's. -/
theorem bRow_eq (c : Dev nD) (t : Fin cfg0.N) (h : t.val < 16) (arg5 : Memref sig .tc .vmem S384x5120 .bf16) (f5 : Bf (F := Ideal) c arg5)
    (e : arg5.view.read (Elt Ideal) f5 = iblk m c 3 t) (r : Fin 384) : bRow c arg5 f5 r = xRow m c (row t.val h r) :=
  funext fun j => (congrFun e _).trans (iblk3_apply m c t h r j)

theorem codesIs_apply (c : Dev nD) (n : ℕ) (h : n < 16) (X : S384x5120.Idx → Elt Ideal .fp8e4m3) (hX : CodesIs m c n X) (r : Fin 384) (j : Fin 5120) :
    X (ix2 r j) = Spec.code Spec.kI (xRow m c (row n h r)) j := by
  obtain ⟨t, arg5, f5, arg9, rfl, e, rfl | rfl⟩ := hX
  · rw [first_codes, codes_apply, bRow_eq m c t h arg5 f5 e]
  · rw [mid_codes, codes_apply, bRow_eq m c t h arg5 f5 e]
theorem scalesIs_apply (c : Dev nD) (n : ℕ) (h : n < 16) (X : S384x40.Idx → Elt Ideal .f32) (hX : ScalesIs m c n X) (r : Fin 384) (g : Fin 40) :
    X (ix2 r g) = Spec.kS (Spec.amax (Spec.grp (xRow m c (row n h r)) g)) := by
  obtain ⟨t, arg5, f5, arg10, rfl, e, rfl | rfl⟩ := hX
  · rw [first_scales, scales_apply, bRow_eq m c t h arg5 f5 e]
  · rw [mid_scales, scales_apply, bRow_eq m c t h arg5 f5 e]

theorem coords_val : ∀ t : Fin cfg0.N, (grid0.coords t 0).val = t.val := by decide +kernel

theorem xsIs_apply (c : Dev nD) (n : ℕ) (h : n < 16) (fx : Bf (F := Ideal) c xsM) (hx : XsIs m c n fx) (s : Fin 2) (hs : s.val = n % 2) (r : Fin 384) (j : Fin 5120) :
    xsM.view.read (Elt Ideal) fx (ix3 s r j) = Spec.deq Spec.kI Spec.kS (xRow m c (row n h r)) j := by
  obtain ⟨t, arg5, f5, gx, rfl, e, ⟨h0, rfl⟩ | ⟨h2, rfl⟩⟩ := hx
  · have es : s = ⟨0, Nat.zero_lt_two⟩ := Fin.ext (show s.val = 0 by omega)
    rw [es, first_xs, xs_apply, bRow_eq m c t h arg5 f5 e]
  · have es : s = ⟨(grid0.coords t 0).val % 2, Nat.mod_lt _ Nat.zero_lt_two⟩ := Fin.ext (by rw [hs, ← coords_val t])
    rw [es, mid_xs, xs_apply, bRow_eq m c t h arg5 f5 e]

theorem wsIs_apply (c : Dev nD) (fw : Bf (F := Ideal) c wsM) (hw : WsIs m c fw) (o : Fin 2112) (j : Fin 5120) :
    wsM.view.read (Elt Ideal) fw (ix2 o j) = Spec.wdeq (wMat m c) (sMat m c) o j := by
  obtain ⟨arg2, f2, t, gs, e, rfl⟩ := hw
  rw [first_ws, read_wtL c arg2 _ f2 gs _ _ o j 40 le_rfl (by omega), Spec.wdeq, Spec.wdeq, Sc, e, iblk0_apply]
  rfl

end Cert.KernelIdeal.Hand
-- ==== Proof.KernelIdeal.Host.lean ====
/- The kernel's operands that the host reshapes. -/
module

public import proofs.«01_k».proof.Proof.KernelIdeal.Rows

@[expose] public section

set_option maxRecDepth 10000

noncomputable section

namespace Cert.KernelIdeal.Hand

open Cert.KernelIdeal Cert.KernelIdeal.Gen Cert.KernelIdeal.Facts
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ)

theorem V_main_v0 (c : Dev nD) : V m c main_v0 = shapeCast S1x1536 (m ((c : Thread nD τ).loc main_arg3)) shapeCasts_S1536_S1x1536 := by
  simp only [V, hostOps0, List.flatten_cons, List.flatten_nil, List.cons_append, List.nil_append, List.append_nil]
  after_results_simp; rfl
theorem V_main_v1 (c : Dev nD) : V m c main_v1 = shapeCast S1x512 (m ((c : Thread nD τ).loc main_arg4)) shapeCasts_S512_S1x512 := by
  simp only [V, hostOps0, List.flatten_cons, List.flatten_nil, List.cons_append, List.nil_append, List.append_nil]
  after_results_simp; rfl
theorem V_main_v2 (c : Dev nD) : V m c main_v2 = shapeCast S6144x5120 (m ((c : Thread nD τ).loc main_arg0)) shapeCasts_S1x6144x5120_S6144x5120 := by
  simp only [V, hostOps0, List.flatten_cons, List.flatten_nil, List.cons_append, List.nil_append, List.append_nil]
  after_results_simp; rfl

end Cert.KernelIdeal.Hand

end
-- ==== Proof.KernelIdeal.Proj2.lean ====
/- The projections the points leave, row by row. -/
module

public import proofs.«01_k».proof.Proof.KernelIdeal.Rows

@[expose] public section

set_option maxRecDepth 10000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ)

/-- The projection of row `R`. -/
def yRow (c : Dev nD) (R : Fin 6144) (o : Fin 2112) : EReal :=
  Spec.dot (Spec.deq Spec.kI Spec.kS (xRow m c R)) (Spec.wdeq (wMat m c) (sMat m c) o)
/-- The query part of a projected row, the compressed part and the position part. -/
def qPart (y : Fin 2112 → EReal) (o : Fin 1536) : EReal := y ⟨o.val, by omega⟩
def cPart (y : Fin 2112 → EReal) (o : Fin 512) : EReal := y ⟨1536 + o.val, by omega⟩
def kPart (y : Fin 2112 → EReal) (o : Fin 64) : EReal := y ⟨2048 + o.val, by omega⟩
/-- The query result of a row, the compressed result. -/
def qRes (y : Fin 2112 → EReal) (g : Fin 1536 → EReal) (o : Fin 1536) : EReal :=
  Spec.norm (qPart y o) (Ideal.div (∑ o : Fin 1536, qPart y o * qPart y o) (Ideal.ofBits .f32 0x44C00000#32)) (g o)
def cRes (y : Fin 2112 → EReal) (g : Fin 512 → EReal) (o : Fin 512) : EReal :=
  Spec.norm (cPart y o) (Ideal.div (∑ o : Fin 512, cPart y o * cPart y o) (Ideal.ofBits .f32 0x44000000#32)) (g o)

section
variable (c : Dev nD) (t : Fin cfg0.N) (n : ℕ) (hn : n < 16) (ht : n + 1 = t.val) (h : ∀ a, k0_off1 (grid0.coords t) a + S1x384x5120.size a ≤ S2x384x5120.size a)
  (fw : Bf (F := Ideal) c wsM) (fx : Bf (F := Ideal) c xsM) (hw : WsIs m c fw) (hx : XsIs m c n fx)
include hw hx ht

theorem xld_row (r : Fin 384) (j : Fin 5120) : xld c (grid0.coords t) h fx (ix3 (0 : Fin 1) r j) = Spec.deq Spec.kI Spec.kS (xRow m c (row n hn r)) j := by
  rw [xld_apply]
  exact xsIs_apply m c n hn fx hx _ (by have := coords_val t; show 1 - (grid0.coords t 0).val % 2 = n % 2; omega) r j
theorem T512_row (o : ℕ) (ho : o + 512 ≤ 2112) (r : Fin 384) (p : Fin 512) :
    T512 (xld c (grid0.coords t) h fx) (wld c fw o ho) (ix2 r p) = yRow m c (row n hn r) ⟨o + p.val, by omega⟩ := by
  rw [T512_apply]
  exact congrArg₂ Spec.dot (funext fun j => xld_row m c t n hn ht h fw fx hw hx r j) (funext fun j => (wld_apply c fw o ho p j).trans (wsIs_apply m c fw hw _ j))
theorem k_row (r : Fin 384) (p : Fin 64) : k0_pay5 (xld c (grid0.coords t) h fx) (wld64 c fw) (ix2 r p) = kPart (yRow m c (row n hn r)) p := by
  rw [pay5_apply]
  exact congrArg₂ Spec.dot (funext fun j => xld_row m c t n hn ht h fw fx hw hx r j) (funext fun j => (wld64_apply c fw p j).trans (wsIs_apply m c fw hw _ j))
theorem c_row (g : Vec Ideal S1x512 .bf16) (r : Fin 384) (p : Fin 512) :
    k0_pay6 (T512 (xld c (grid0.coords t) h fx) (wld c fw 1536 (by decide))) g (ix2 r p) = cRes (yRow m c (row n hn r)) (fun o => g (ix2 (0 : Fin 1) o)) p := by
  rw [pay6_apply, Spec.mean_c]
  simp only [T512_row m c t n hn ht h fw fx hw hx]
  rfl
theorem q_row (g : Vec Ideal S1x1536 .bf16) (r : Fin 384) (p : Fin 1536) :
    qOut (T512 (xld c (grid0.coords t) h fx) (wld c fw 0 (by decide))) (T512 (xld c (grid0.coords t) h fx) (wld c fw 512 (by decide)))
      (T512 (xld c (grid0.coords t) h fx) (wld c fw 1024 (by decide))) g (ix2 r p) = qRes (yRow m c (row n hn r)) (fun o => g (ix2 (0 : Fin 1) o)) p := by
  rw [qOut_apply, Spec.mean_q, cat3]
  simp only [T512_row m c t n hn ht h fw fx hw hx]
  rw [qRes, ← Spec.sum3 fun o => qPart (yRow m c (row n hn r)) o * qPart (yRow m c (row n hn r)) o]
  have e : (if h : p.val < 512 then yRow m c (row n hn r) ⟨0 + p.val, by omega⟩
      else if h' : p.val < 1024 then yRow m c (row n hn r) ⟨512 + (p.val - 512), by omega⟩ else yRow m c (row n hn r) ⟨1024 + (p.val - 1024), by omega⟩)
      = qPart (yRow m c (row n hn r)) p := by
    unfold qPart
    split
    · exact congrArg _ (Fin.ext (Nat.zero_add _))
    · split
      · exact congrArg _ (Fin.ext (show 512 + (p.val - 512) = p.val by omega))
      · exact congrArg _ (Fin.ext (show 1024 + (p.val - 1024) = p.val by omega))
  have e0 : ∀ o : Fin 512, (⟨0 + o.val, by omega⟩ : Fin 2112) = ⟨o.val, by omega⟩ := fun o => Fin.ext (Nat.zero_add _)
  rw [e]
  simp only [e0]
  rfl
end

/-- A store of a whole buffer, read back. -/
theorem read_whole {sp : Space} {s : Shape} {e : EltTy} (v : View sig .tc sp s e) (f : v.ty.Contents (Elt Ideal)) (off : Fin s.rank → ℕ) (h0 : ∀ a, off a = 0)
    (inb : ∀ a, off a + s.size a ≤ s.size a) (w : (Rect.unit off s.size inb).shape.Idx → Elt Ideal e) (L : List (View.Piece (Elt Ideal) s e)) (y : s.Idx) :
    v.read (Elt Ideal) (v.writes (Elt Ideal) f ((⟨Rect.unit off s.size inb, w⟩ : View.Piece (Elt Ideal) s e) :: L)) y = w y :=
  View.read_writes_cons_unit_of_mem v f inb w L y y rfl fun a => by rw [h0]; exact (Nat.zero_add _).symm
theorem gain1 (c : Dev nD) (arg3 : Memref sig .tc .vmem S1x1536 .bf16) (f3 : Bf (F := Ideal) c arg3) (o : Fin 1536) :
    View.readAt (Elt Ideal) arg3.view (Rect.unit (s := S1x1536) ![0, 0] S1x1536.size inb_S1x1536_S1x1536_0_0).toLoadRect f3 (ix2 (0 : Fin 1) o)
      = arg3.view.read (Elt Ideal) f3 (ix2 (0 : Fin 1) o) := by
  refine congrArg (arg3.view.read (Elt Ideal) f3) (funext fun a => Fin.ext ?_)
  fin_cases a
  · show 0 + 1 * 0 = 0; omega
  · show 0 + 1 * o.val = o.val; omega
theorem gain2 (c : Dev nD) (arg4 : Memref sig .tc .vmem S1x512 .bf16) (f4 : Bf (F := Ideal) c arg4) (o : Fin 512) :
    View.readAt (Elt Ideal) arg4.view (Rect.unit (s := S1x512) ![0, 0] S1x512.size inb_S1x512_S1x512_0_0).toLoadRect f4 (ix2 (0 : Fin 1) o)
      = arg4.view.read (Elt Ideal) f4 (ix2 (0 : Fin 1) o) := by
  refine congrArg (arg4.view.read (Elt Ideal) f4) (funext fun a => Fin.ext ?_)
  fin_cases a
  · show 0 + 1 * 0 = 0; omega
  · show 0 + 1 * o.val = o.val; omega
theorem off0 : ∀ a : Fin 2, (![0, 0] : Fin 2 → ℕ) a = 0 := by decide

theorem kIs_apply (c : Dev nD) (t : Fin cfg0.N) (h : t.val - 1 < 16) (X : S384x64.Idx → Elt Ideal .bf16) (hX : KIs m c t X) (r : Fin 384) (p : Fin 64) :
    X (ix2 r p) = kPart (yRow m c (row (t.val - 1) h r)) p := by
  obtain ⟨n, fw, fx, arg8, hn, hw, hx, ⟨h2, arg5, f5, rfl⟩ | ⟨h3, rfl⟩⟩ := hX
  all_goals obtain rfl : n = t.val - 1 := by omega
  · rw [mid_k, xld_xsAt]
    exact (read_whole _ _ _ off0 _ _ _ _).trans (k_row m c t _ h hn _ fw fx hw hx r p)
  · rw [last_k]
    exact (read_whole _ _ _ off0 _ _ _ _).trans (k_row m c t _ h hn (k0_off42_inb (grid0.coords t) h3) fw fx hw hx r p)
theorem cIs_apply (c : Dev nD) (t : Fin cfg0.N) (h : t.val - 1 < 16) (X : S384x512.Idx → Elt Ideal .bf16) (hX : CIs m c t X) (r : Fin 384) (p : Fin 512) :
    X (ix2 r p) = cRes (yRow m c (row (t.val - 1) h r)) (cGain m c) p := by
  obtain ⟨n, fw, fx, arg7, arg4, f4, hn, hw, hx, e, ⟨h2, arg5, f5, rfl⟩ | ⟨h3, rfl⟩⟩ := hX
  all_goals
    obtain rfl : n = t.val - 1 := by omega
    have eg : (fun o : Fin 512 => View.readAt (Elt Ideal) arg4.view (Rect.unit (s := S1x512) ![0, 0] S1x512.size inb_S1x512_S1x512_0_0).toLoadRect f4 (ix2 (0 : Fin 1) o)) = cGain m c :=
      funext fun o => (gain2 c arg4 f4 o).trans ((congrFun e _).trans (iblk2_apply m c t o))
  · rw [mid_c, xld_xsAt]
    exact (read_whole _ _ _ off0 _ _ _ _).trans ((c_row m c t _ h hn _ fw fx hw hx _ r p).trans (congrArg (fun g => cRes _ g p) eg))
  · rw [last_c]
    exact (read_whole _ _ _ off0 _ _ _ _).trans ((c_row m c t _ h hn (k0_off42_inb (grid0.coords t) h3) fw fx hw hx _ r p).trans (congrArg (fun g => cRes _ g p) eg))
theorem qIs_apply (c : Dev nD) (t : Fin cfg0.N) (h : t.val - 1 < 16) (X : S384x1536.Idx → Elt Ideal .bf16) (hX : QIs m c t X) (r : Fin 384) (p : Fin 1536) :
    X (ix2 r p) = qRes (yRow m c (row (t.val - 1) h r)) (qGain m c) p := by
  obtain ⟨n, fw, fx, arg6, arg3, f3, hn, hw, hx, e, ⟨h2, arg5, f5, rfl⟩ | ⟨h3, rfl⟩⟩ := hX
  all_goals
    obtain rfl : n = t.val - 1 := by omega
    have eg : (fun o : Fin 1536 => View.readAt (Elt Ideal) arg3.view (Rect.unit (s := S1x1536) ![0, 0] S1x1536.size inb_S1x1536_S1x1536_0_0).toLoadRect f3 (ix2 (0 : Fin 1) o)) = qGain m c :=
      funext fun o => (gain1 c arg3 f3 o).trans ((congrFun e _).trans (iblk1_apply m c t o))
  · rw [mid_q, xld_xsAt, xld_xsAt, xld_xsAt]
    exact (read_whole _ _ _ off0 _ _ _ _).trans ((q_row m c t _ h hn _ fw fx hw hx _ r p).trans (congrArg (fun g => qRes _ g p) eg))
  · rw [last_q]
    exact (read_whole _ _ _ off0 _ _ _ _).trans ((q_row m c t _ h hn (k0_off42_inb (grid0.coords t) h3) fw fx hw hx _ r p).trans (congrArg (fun g => qRes _ g p) eg))

end Cert.KernelIdeal.Hand
-- ==== Proof.KernelIdeal.Final.lean ====
/- The kernel's five results after the run, index by index. -/
module

public import proofs.«01_k».proof.Proof.KernelIdeal.Proj2

@[expose] public section

set_option maxRecDepth 10000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat RDat Cfg Window)

variable (m : (ℓ : Loc nD τ sig) → Buf (Elt Ideal) ℓ) (ρ : Dev nD → PrngReg)

theorem flush4 : ∀ t : Fin cfg0.N, (cfg0.win 4).flush t = true ↔ t.val ≠ 0 := by decide +kernel
theorem flush5 : ∀ t : Fin cfg0.N, (cfg0.win 5).flush t = true ↔ t.val ≠ 0 := by decide +kernel
theorem flush6 : ∀ t : Fin cfg0.N, (cfg0.win 6).flush t = true ↔ t.val ≠ 0 := by decide +kernel
theorem flush7 : ∀ t : Fin cfg0.N, (cfg0.win 7).flush t = true ↔ t.val ≠ 15 := by decide +kernel
theorem flush8 : ∀ t : Fin cfg0.N, (cfg0.win 8).flush t = true ↔ t.val ≠ 15 := by decide +kernel

/-- The five results. -/
def outQ (c : Dev nD) : S6144x1536.Idx → EReal := fun i => qRes (yRow m c (i 0)) (qGain m c) (i 1)
def outC (c : Dev nD) : S6144x512.Idx → EReal := fun i => cRes (yRow m c (i 0)) (cGain m c) (i 1)
def outK (c : Dev nD) : S6144x64.Idx → EReal := fun i => kPart (yRow m c (i 0)) (i 1)
def outCodes (c : Dev nD) : S6144x5120.Idx → EReal := fun i => Spec.code Spec.kI (xRow m c (i 0)) (i 1)
@[irreducible] def scRow (c : Dev nD) (R : Fin 6144) (g : Fin 40) : EReal := Spec.kS (Spec.amax (Spec.grp (xRow m c R) g))
theorem scRow_eq (c : Dev nD) (R : Fin 6144) (g : Fin 40) : scRow m c R g = Spec.kS (Spec.amax (Spec.grp (xRow m c R) g)) := by unfold scRow; rfl
def outScales (c : Dev nD) : S6144x40.Idx → EReal := fun i => scRow m c (i 0) (i 1)

theorem lt17 (t : Fin cfg0.N) : t.val < 17 := t.isLt

/-- Every index has its point: the block of rows `i`'s row lies in is written at the point after the one that fills it. -/
theorem pt_exists (R : ℕ) (h : R < 6144) : ∃ t : Fin cfg0.N, t.val = R / 384 + 1 := ⟨⟨R / 384 + 1, by show _ < 17; omega⟩, rfl⟩
/-- The codes and scales of the last block are written at the last point, of every other block at the point that fills it. -/
theorem pt_exists' (R : ℕ) (h : R < 6144) : ∃ t : Fin cfg0.N, t.val ≠ 15 ∧ min t.val 15 = R / 384 := by
  by_cases h' : R / 384 = 15
  · exact ⟨⟨16, by show _ < 17; omega⟩, by show 16 ≠ 15; omega, by show min 16 15 = _; omega⟩
  · exact ⟨⟨R / 384, by show _ < 17; omega⟩, h', by show min (R / 384) 15 = _; omega⟩

section
variable (c : Dev nD) (after : (w' : Fin cfg0.W) → Fin cfg0.N → (cfg0.win w').block.Idx → Elt Ideal (cfg0.win w').elt)

theorem arr4 (hL : ∀ t : Fin cfg0.N, t.val ≠ 0 → QIs m c t (after 4 t)) : ((rdat m c).withAfter after).arrAt 4 cfg0.N = outQ m c := by
  refine Dat.arrAt_eq_of_cover ((rdat m c).withAfter after) (4 : Fin cfg0.W) (outQ m c) (fun t hf => funext fun y => ?_) fun i => ?_
  · have h0 := (flush4 t).mp hf
    have ht := lt17 t
    obtain ⟨r, p, rfl⟩ : ∃ (r : Fin 384) (p : Fin 1536), y = ix2 r p := ⟨y 0, y 1, eq_ix2 y⟩
    refine (qIs_apply m c t (by omega) _ (hL t h0) r p).trans ?_
    refine congrArg₂ (fun (R : Fin 6144) (o : Fin 1536) => qRes (yRow m c R) (qGain m c) o) (Fin.ext ?_) (Fin.ext ?_)
    · refine .trans ?_ ((cfg0.win 4).rect_emb_val t (ix2 r p) (0 : Fin 2)).symm
      rw [idx4]
      show 384 * (t.val - 1) + r.val = (t.val - 1) * 384 + r.val; omega
    · refine .trans ?_ ((cfg0.win 4).rect_emb_val t (ix2 r p) (1 : Fin 2)).symm
      rw [idx4]
      show p.val = 0 * 1536 + p.val; omega
  · have h0 : (i 0).val < 6144 := (i 0).isLt
    have h1 : (i 1).val < 1536 := (i 1).isLt
    obtain ⟨t, ht⟩ := pt_exists (i 0).val h0
    refine ⟨t, (flush4 t).mpr (by omega), ?_⟩
    mem_blk [idx4]
    have e0 : win0_4.index t 0 = t.val - 1 := idx4 t 0
    have e1 : win0_4.index t 1 = 0 := idx4 t 1
    rw [e0, e1]
    omega
theorem arr5 (hL : ∀ t : Fin cfg0.N, t.val ≠ 0 → CIs m c t (after 5 t)) : ((rdat m c).withAfter after).arrAt 5 cfg0.N = outC m c := by
  refine Dat.arrAt_eq_of_cover ((rdat m c).withAfter after) (5 : Fin cfg0.W) (outC m c) (fun t hf => funext fun y => ?_) fun i => ?_
  · have h0 := (flush5 t).mp hf
    have ht := lt17 t
    obtain ⟨r, p, rfl⟩ : ∃ (r : Fin 384) (p : Fin 512), y = ix2 r p := ⟨y 0, y 1, eq_ix2 y⟩
    refine (cIs_apply m c t (by omega) _ (hL t h0) r p).trans ?_
    refine congrArg₂ (fun (R : Fin 6144) (o : Fin 512) => cRes (yRow m c R) (cGain m c) o) (Fin.ext ?_) (Fin.ext ?_)
    · refine .trans ?_ ((cfg0.win 5).rect_emb_val t (ix2 r p) (0 : Fin 2)).symm
      rw [idx5]
      show 384 * (t.val - 1) + r.val = (t.val - 1) * 384 + r.val; omega
    · refine .trans ?_ ((cfg0.win 5).rect_emb_val t (ix2 r p) (1 : Fin 2)).symm
      rw [idx5]
      show p.val = 0 * 512 + p.val; omega
  · have h0 : (i 0).val < 6144 := (i 0).isLt
    have h1 : (i 1).val < 512 := (i 1).isLt
    obtain ⟨t, ht⟩ := pt_exists (i 0).val h0
    refine ⟨t, (flush5 t).mpr (by omega), ?_⟩
    mem_blk [idx5]
    have e0 : win0_5.index t 0 = t.val - 1 := idx5 t 0
    have e1 : win0_5.index t 1 = 0 := idx5 t 1
    rw [e0, e1]
    omega
theorem arr6 (hL : ∀ t : Fin cfg0.N, t.val ≠ 0 → KIs m c t (after 6 t)) : ((rdat m c).withAfter after).arrAt 6 cfg0.N = outK m c := by
  refine Dat.arrAt_eq_of_cover ((rdat m c).withAfter after) (6 : Fin cfg0.W) (outK m c) (fun t hf => funext fun y => ?_) fun i => ?_
  · have h0 := (flush6 t).mp hf
    have ht := lt17 t
    obtain ⟨r, p, rfl⟩ : ∃ (r : Fin 384) (p : Fin 64), y = ix2 r p := ⟨y 0, y 1, eq_ix2 y⟩
    refine (kIs_apply m c t (by omega) _ (hL t h0) r p).trans ?_
    refine congrArg₂ (fun (R : Fin 6144) (o : Fin 64) => kPart (yRow m c R) o) (Fin.ext ?_) (Fin.ext ?_)
    · refine .trans ?_ ((cfg0.win 6).rect_emb_val t (ix2 r p) (0 : Fin 2)).symm
      rw [idx6]
      show 384 * (t.val - 1) + r.val = (t.val - 1) * 384 + r.val; omega
    · refine .trans ?_ ((cfg0.win 6).rect_emb_val t (ix2 r p) (1 : Fin 2)).symm
      rw [idx6]
      show p.val = 0 * 64 + p.val; omega
  · have h0 : (i 0).val < 6144 := (i 0).isLt
    have h1 : (i 1).val < 64 := (i 1).isLt
    obtain ⟨t, ht⟩ := pt_exists (i 0).val h0
    refine ⟨t, (flush6 t).mpr (by omega), ?_⟩
    mem_blk [idx6]
    have e0 : win0_6.index t 0 = t.val - 1 := idx6 t 0
    have e1 : win0_6.index t 1 = 0 := idx6 t 1
    rw [e0, e1]
    omega
theorem arr7 (hL : ∀ t : Fin cfg0.N, t.val ≠ 15 → CodesIs m c (min t.val 15) (after 7 t)) : ((rdat m c).withAfter after).arrAt 7 cfg0.N = outCodes m c := by
  refine Dat.arrAt_eq_of_cover ((rdat m c).withAfter after) (7 : Fin cfg0.W) (outCodes m c) (fun t hf => funext fun y => ?_) fun i => ?_
  · have h0 := (flush7 t).mp hf
    obtain ⟨r, p, rfl⟩ : ∃ (r : Fin 384) (p : Fin 5120), y = ix2 r p := ⟨y 0, y 1, eq_ix2 y⟩
    refine (codesIs_apply m c (min t.val 15) (by omega) _ (hL t h0) r p).trans ?_
    refine congrArg₂ (fun (R : Fin 6144) (o : Fin 5120) => Spec.code Spec.kI (xRow m c R) o) (Fin.ext ?_) (Fin.ext ?_)
    · refine .trans ?_ ((cfg0.win 7).rect_emb_val t (ix2 r p) (0 : Fin 2)).symm
      rw [idx7]
      show 384 * min t.val 15 + r.val = min t.val 15 * 384 + r.val; omega
    · refine .trans ?_ ((cfg0.win 7).rect_emb_val t (ix2 r p) (1 : Fin 2)).symm
      rw [idx7]
      show p.val = 0 * 5120 + p.val; omega
  · have h0 : (i 0).val < 6144 := (i 0).isLt
    have h1 : (i 1).val < 5120 := (i 1).isLt
    obtain ⟨t, ht, hm⟩ := pt_exists' (i 0).val h0
    refine ⟨t, (flush7 t).mpr ht, ?_⟩
    mem_blk [idx7]
    have e0 : win0_7.index t 0 = min t.val 15 := idx7 t 0
    have e1 : win0_7.index t 1 = 0 := idx7 t 1
    rw [e0, e1, hm]
    omega
theorem arr8 (hL : ∀ t : Fin cfg0.N, t.val ≠ 15 → ScalesIs m c (min t.val 15) (after 8 t)) : ((rdat m c).withAfter after).arrAt 8 cfg0.N = outScales m c := by
  refine Dat.arrAt_eq_of_cover ((rdat m c).withAfter after) (8 : Fin cfg0.W) (outScales m c) (fun t hf => funext fun y => ?_) fun i => ?_
  · have h0 := (flush8 t).mp hf
    obtain ⟨r, p, rfl⟩ : ∃ (r : Fin 384) (p : Fin 40), y = ix2 r p := ⟨y 0, y 1, eq_ix2 y⟩
    refine ((scalesIs_apply m c (min t.val 15) (by omega) _ (hL t h0) r p).trans (scRow_eq m c _ p).symm).trans ?_
    refine congrArg₂ (fun (R : Fin 6144) (o : Fin 40) => scRow m c R o) (Fin.ext ?_) (Fin.ext ?_)
    · refine .trans ?_ ((cfg0.win 8).rect_emb_val t (ix2 r p) (0 : Fin 2)).symm
      rw [idx8]
      show 384 * min t.val 15 + r.val = min t.val 15 * 384 + r.val; omega
    · refine .trans ?_ ((cfg0.win 8).rect_emb_val t (ix2 r p) (1 : Fin 2)).symm
      rw [idx8]
      show p.val = 0 * 40 + p.val; omega
  · have h0 : (i 0).val < 6144 := (i 0).isLt
    have h1 : (i 1).val < 40 := (i 1).isLt
    obtain ⟨t, ht, hm⟩ := pt_exists' (i 0).val h0
    refine ⟨t, (flush8 t).mpr ht, ?_⟩
    mem_blk [idx8]
    have e0 : win0_8.index t 0 = min t.val 15 := idx8 t 0
    have e1 : win0_8.index t 1 = 0 := idx8 t 1
    rw [e0, e1, hm]
    omega
end

/-- The run leaves the five results named above, and the arguments as they began. -/
theorem run_values : θ_run defs (onTc (τ := τ) (main (F := Ideal))) (s₀ m ρ) (fun r => ∀ c : Dev nD,
      r.2.mem ((c.tc : Thread nD τ).loc main_v3_0) = outQ m c
      ∧ r.2.mem ((c.tc : Thread nD τ).loc main_v3_1) = outC m c
      ∧ r.2.mem ((c.tc : Thread nD τ).loc main_v3_2) = outK m c
      ∧ r.2.mem ((c.tc : Thread nD τ).loc main_v3_3) = outCodes m c
      ∧ r.2.mem ((c.tc : Thread nD τ).loc main_v3_4) = outScales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ)
  obtain ⟨after, hL, hA⟩ := RDat.FramePost.exists_exact h.1 c
  refine ⟨(hA 4).trans (arr4 m c after fun t ht => ?_), (hA 5).trans (arr5 m c after fun t ht => ?_), (hA 6).trans (arr6 m c after fun t ht => ?_),
    (hA 7).trans (arr7 m c after fun t ht => ?_), (hA 8).trans (arr8 m c after fun t ht => ?_),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    (h.1.arr_in c 0 rfl).trans ((A_eq m c 0).trans (V_main_arg2 m c)),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩
  · exact Dat.toRRel_leaves (dats m 0 c) (w := (4 : Fin cfg0.W)) rfl (hL 4 t ((flush4 t).mpr ht)) ht
  · exact Dat.toRRel_leaves (dats m 0 c) (w := (5 : Fin cfg0.W)) rfl (hL 5 t ((flush5 t).mpr ht)) ht
  · exact Dat.toRRel_leaves (dats m 0 c) (w := (6 : Fin cfg0.W)) rfl (hL 6 t ((flush6 t).mpr ht)) ht
  · exact Dat.toRRel_leaves (dats m 0 c) (w := (7 : Fin cfg0.W)) rfl (hL 7 t ((flush7 t).mpr ht))
  · exact Dat.toRRel_leaves (dats m 0 c) (w := (8 : Fin cfg0.W)) rfl (hL 8 t ((flush8 t).mpr ht))

end Cert.KernelIdeal.Hand
-- ==== Proof.ReferenceIdeal.Host.lean ====
/- The reference's host operations, composed: what the arrays that its kernel reads, and the scales it returns, are of the arguments. -/
module

public import proofs.«01_k».proof.Proof.Gen.ReferenceIdeal.Frame

@[expose] public section

noncomputable section

namespace Cert.ReferenceIdeal.Hand

open Cert.ReferenceIdeal Cert.ReferenceIdeal.Gen Cert.ReferenceIdeal.Facts
open Idealize.ShloMosaic Idealize.ShloMosaic.TcCoe Idealize.SL.Sem

variable {F : FTy → Type} [FloatOps F]
variable (m : (ℓ : Loc nD τ sig) → Buf (Elt F) ℓ)

/-- One number at every group. -/
abbrev each (v : FVec F S_ .f32) : FVec F S6144x40 .f32 := broadcastInDim S6144x40 ![] bcast_S_S6144x40 v
/-- The input as rows. -/
def rowsV (a : FVec F S1x6144x5120 .bf16) : FVec F S6144x5120 .bf16 := shapeCast S6144x5120 a shapeCasts_S1x6144x5120_S6144x5120
/-- Each group's largest magnitude. -/
def amaxV (x : FVec F S6144x5120 .bf16) : FVec F S6144x40 .f32 :=
  extf .f32 (Host.reduce FloatOps.maximumf (shapeCast S6144x40x128 (Host.absf x) shapeCasts_S6144x5120_S6144x40x128) (constant S_ .bf16 0xFF80#16) reducesTo_S6144x40x128_S6144x40_d2 h_S_) bitsLt_bf16_f32
/-- Each group's exponent. -/
def expV (a : FVec F S6144x40 .f32) : FVec F S6144x40 .f32 :=
  select (cmpf .oeq a (each (constant S_ .f32 0x00000000#32))) (each (id (constant S_ .f32 0x00000000#32)))
    (addf (Host.floor (Host.divf (Host.log (mulf a (each (constant S_ .f32 0x3B124925#32)))) (each (id (Host.log (constant S_ .f32 0x40000000#32)))))) (each (constant S_ .f32 0x3F800000#32)))
/-- Each group's scale, and its inverse. -/
def scaleV (e : FVec F S6144x40 .f32) : FVec F S6144x40 .f32 := Host.powf (each (constant S_ .f32 0x40000000#32)) e
def invV (e : FVec F S6144x40 .f32) : FVec F S6144x40 .f32 := Host.powf (each (constant S_ .f32 0x40000000#32)) (Host.negf e)
/-- One number of each group at every element of the group. -/
def fullV (s : FVec F S6144x40 .f32) : FVec F S6144x5120 .bf16 :=
  shapeCast S6144x5120 (broadcastInDim S6144x40x128 ![0, 1] bcast_S6144x40_S6144x40x128_0_1 (truncf .bf16 s bitsLt_bf16_f32)) shapeCasts_S6144x40x128_S6144x5120
/-- The scale of each of the weight's blocks at every element of the block. -/
def wscaleV (s : FVec F S17x40 .f32) : FVec F S2112x5120 .bf16 :=
  truncf .bf16 (extractStridedSlice S2112x5120 ![0, 0] (shapeCast S2176x5120 (broadcastInDim S2176x40x128 ![0, 1] bcast_S2176x40_S2176x40x128_0_1
    (shapeCast S2176x40 (broadcastInDim S17x128x40 ![0, 2] bcast_S17x40_S17x128x40_0_2 s) shapeCasts_S17x128x40_S2176x40)) shapeCasts_S2176x40x128_S2176x5120) slices_S2176x5120_S2112x5120_0_0) bitsLt_bf16_f32

/-- The arguments. -/
abbrev A0 (c : Dev nD) : FVec F S1x6144x5120 .bf16 := m ((c : Thread nD τ).loc main_arg0)
abbrev A2 (c : Dev nD) : FVec F S17x40 .f32 := m ((c : Thread nD τ).loc main_arg2)

theorem V_v0 (c : Dev nD) : V m c main_v0 = rowsV (A0 m c) := by
  simp only [V, hostOps0, hostOps0_1, hostOps0_2, List.flatten_cons, List.flatten_nil, List.cons_append, List.nil_append, List.append_nil]
  after_results_simp
  rfl
theorem V_v19 (c : Dev nD) : V m c main_v19 = scaleV (expV (amaxV (rowsV (A0 m c)))) := by
  simp only [V, hostOps0, hostOps0_1, hostOps0_2, List.flatten_cons, List.flatten_nil, List.cons_append, List.nil_append, List.append_nil]
  after_results_simp
  rfl
theorem V_v26 (c : Dev nD) : V m c main_v26 = extf .f32 (fullV (invV (expV (amaxV (rowsV (A0 m c)))))) bitsLt_bf16_f32 := by
  simp only [V, hostOps0, hostOps0_1, hostOps0_2, List.flatten_cons, List.flatten_nil, List.cons_append, List.nil_append, List.append_nil]
  after_results_simp
  rfl
theorem V_v29 (c : Dev nD) : V m c main_v29 = fullV (scaleV (expV (amaxV (rowsV (A0 m c))))) := by
  simp only [V, hostOps0, hostOps0_1, hostOps0_2, List.flatten_cons, List.flatten_nil, List.cons_append, List.nil_append, List.append_nil]
  after_results_simp
  rfl
theorem V_v35 (c : Dev nD) : V m c main_v35 = wscaleV (A2 m c) := by
  simp only [V, hostOps0, hostOps0_1, hostOps0_2, List.flatten_cons, List.flatten_nil, List.cons_append, List.nil_append, List.append_nil]
  after_results_simp
  rfl
theorem V_v36 (c : Dev nD) : V m c main_v36 = shapeCast S1x1536 (m ((c : Thread nD τ).loc main_arg3)) shapeCasts_S1536_S1x1536 := by
  simp only [V, hostOps0, hostOps0_1, hostOps0_2, List.flatten_cons, List.flatten_nil, List.cons_append, List.nil_append, List.append_nil]
  after_results_simp
  rfl
theorem V_v37 (c : Dev nD) : V m c main_v37 = shapeCast S1x512 (m ((c : Thread nD τ).loc main_arg4)) shapeCasts_S512_S1x512 := by
  simp only [V, hostOps0, hostOps0_1, hostOps0_2, List.flatten_cons, List.flatten_nil, List.cons_append, List.nil_append, List.append_nil]
  after_results_simp
  rfl

end Cert.ReferenceIdeal.Hand
-- ==== Proof.ReferenceIdeal.Values.lean ====
/- The reference's operations, row by row, at the extended reals. -/
module

public import proofs.«01_k».proof.Proof.ReferenceIdeal.Host
public import proofs.«01_k».proof.Proof.Spec
public import Idealize.ShloMosaic.Lib.KernelVsHost
public import Idealize.ShloMosaic.Lib.ValueLayout
public import Idealize.ShloMosaic.Lib.MatmulPlain
public import Idealize.ShloMosaic.Lib.Pipeline.Value

@[expose] public section

set_option maxRecDepth 10000

noncomputable section

namespace Cert.ReferenceIdeal.Hand

open Cert.ReferenceIdeal Cert.ReferenceIdeal.Gen Cert.ReferenceIdeal.Facts
open Idealize.ShloMosaic Idealize.ShloMosaic.TcCoe Idealize.ShloMosaic.ValueIdx Idealize.SL.Sem

/-! ## The host's operations -/

theorem bf16_ninf : Ideal.ofBits .bf16 0xFF80#16 = ⊥ := by
  simp only [Ideal.ofBits, Ideal.ieee]
  have k1 : ((0xFF80#16).extractLsb' 15 1 == 1#1) = true := by decide
  have k2 : ((0xFF80#16).extractLsb' 7 8).toNat = 255 := by decide
  have k3 : ((0xFF80#16).extractLsb' 0 7).toNat = 0 := by decide
  simp only [k1, k2, k3]
  norm_num

/-- An element of a group, read through the split of a row into groups. -/
theorem split_apply {α : Type} (x : S6144x5120.Idx → α) (h : S6144x5120.ShapeCasts S6144x40x128) (R : Fin 6144) (g : Fin 40) (k : Fin 128) :
    shapeCast S6144x40x128 x h (ix3 R g k) = x (ix2 R ⟨128 * g.val + k.val, by omega⟩) := by
  refine shapeCast_apply x h _ _ ?_
  rw [Shape.rowMajor_val_two, Shape.rowMajor_val_three]
  show R.val * 5120 + (128 * g.val + k.val) = (R.val * 40 + g.val) * 128 + k.val
  omega

/-- The largest magnitude of a group. -/
theorem amax_apply (x : FVec Ideal S6144x5120 .bf16) (h1 : S6144x5120.ShapeCasts S6144x40x128) (h2 : S6144x40x128.ReducesTo [2] S6144x40) (h3 : 0 < S_.numel)
    (h4 : FTy.bits .bf16 < FTy.bits .f32) (R : Fin 6144) (g : Fin 40) :
    extf .f32 (Host.reduce FloatOps.maximumf (shapeCast S6144x40x128 (Host.absf x) h1) (constant S_ .bf16 0xFF80#16) h2 h3) h4 (ix2 R g)
      = Spec.amax (Spec.grp (fun j => x (ix2 R j)) g) := by
  have h' : S6144x40x128.Reduces [2] S6144x40 := ⟨rfl, Nat.two_pos, h2.2⟩
  have ext : ∀ (y : FVec Ideal S6144x40 .bf16) (i : S6144x40.Idx), extf .f32 y h4 i = y i := fun _ _ => rfl
  rw [ext]
  refine (congrFun (hostReduce_maximumf_eq_multiReduction (shapeCast S6144x40x128 (Host.absf x) h1) 0xFF80#16 h2 h3 h' (.inr rfl) rfl) (ix2 R g)).trans ?_
  refine (Ideal.multiReduction_maximumf_single _ _ h' _ _ _).trans ?_
  rw [show (FloatOps.ofBits .bf16 0xFF80#16 : Ideal .bf16) = ⊥ from bf16_ninf]
  refine congrArg (Finset.fold max ⊥ · _) (funext fun k : Fin 128 => ?_)
  refine Eq.trans (congrArg (shapeCast S6144x40x128 (Host.absf x) h1) (a₂ := ix3 R g k) (funext fun a => Fin.ext ?_)) ((split_apply (Host.absf x) h1 R g k).trans rfl)
  match a with
  | ⟨0, _⟩ => rfl
  | ⟨1, _⟩ => rfl
  | ⟨2, _⟩ => rfl

theorem amaxV_apply (x : FVec Ideal S6144x5120 .bf16) (R : Fin 6144) (g : Fin 40) : amaxV x (ix2 R g) = Spec.amax (Spec.grp (fun j => x (ix2 R j)) g) :=
  amax_apply x _ _ _ _ R g

theorem expV_apply (a : FVec Ideal S6144x40 .f32) (R : Fin 6144) (g : Fin 40) : expV a (ix2 R g) = Scalar.rExp (a (ix2 R g)) := rfl
theorem scaleV_apply (a : FVec Ideal S6144x40 .f32) (R : Fin 6144) (g : Fin 40) : scaleV (expV a) (ix2 R g) = Scalar.rScale (a (ix2 R g)) := rfl
theorem invV_apply (a : FVec Ideal S6144x40 .f32) (R : Fin 6144) (g : Fin 40) : invV (expV a) (ix2 R g) = Scalar.rInv (a (ix2 R g)) := rfl

/-- A group's number at each of its elements. -/
theorem fullV_apply (s : FVec Ideal S6144x40 .f32) (R : Fin 6144) (j : Fin 5120) : fullV s (ix2 R j) = s (ix2 R (Spec.gOf j)) := by
  refine (shapeCast_apply _ _ (ix2 R j) (ix3 R (Spec.gOf j) ⟨j.val % 128, by omega⟩) ?_).trans ?_
  · rw [Shape.rowMajor_val_two, Shape.rowMajor_val_three]
    show (R.val * 40 + j.val / 128) * 128 + j.val % 128 = R.val * 5120 + j.val
    omega
  · refine broadcastInDim_apply _ _ _ _ (ix2 R (Spec.gOf j)) fun a => ?_
    fin_cases a
    · rfl
    · rfl

/-- A block's scale at each of its elements. -/
theorem wscaleV_apply (s : FVec Ideal S17x40 .f32) (o : Fin 2112) (j : Fin 5120) : wscaleV s (ix2 o j) = s (ix2 ⟨o.val / 128, by omega⟩ (Spec.gOf j)) := by
  obtain ⟨u, hu⟩ : ∃ u : Fin 2176, u.val = o.val := ⟨⟨o.val, by omega⟩, rfl⟩
  have ext : ∀ (y : FVec Ideal S2112x5120 .f32) (i : S2112x5120.Idx), truncf .bf16 y bitsLt_bf16_f32 i = y i := fun _ _ => rfl
  rw [wscaleV, ext]
  refine (extractStridedSlice_apply _ _ _ (ix2 o j) (ix2 u j) fun a => ?_).trans ?_
  · fin_cases a
    · exact hu.trans (Nat.zero_add _).symm
    · exact (Nat.zero_add _).symm
  refine (shapeCast_apply _ _ (ix2 u j) (ix3 u (Spec.gOf j) ⟨j.val % 128, by omega⟩) ?_).trans ?_
  · rw [Shape.rowMajor_val_two, Shape.rowMajor_val_three]
    show (u.val * 40 + j.val / 128) * 128 + j.val % 128 = u.val * 5120 + j.val
    omega
  refine (broadcastInDim_apply _ _ _ _ (ix2 u (Spec.gOf j)) fun a => ?_).trans ?_
  · fin_cases a
    · rfl
    · rfl
  refine (shapeCast_apply _ _ (ix2 u (Spec.gOf j)) (ix3 ⟨o.val / 128, by omega⟩ ⟨o.val % 128, Nat.mod_lt _ (by omega)⟩ (Spec.gOf j)) ?_).trans ?_
  · rw [Shape.rowMajor_val_two, Shape.rowMajor_val_three]
    show (o.val / 128 * 128 + o.val % 128) * 40 + j.val / 128 = u.val * 40 + j.val / 128
    omega
  refine broadcastInDim_apply _ _ _ _ (ix2 ⟨o.val / 128, by omega⟩ (Spec.gOf j)) fun a => ?_
  fin_cases a
  · rfl
  · rfl

/-! ## The kernel's -/

/-- An element's code. -/
theorem pay3_apply (x : Vec Ideal S6144x5120 .bf16) (i : Vec Ideal S6144x5120 .f32) (R : Fin 6144) (j : Fin 5120) :
    k0_pay3 x i (ix2 R j) = Spec.clip (x (ix2 R j) * i (ix2 R j)) := by
  rw [k0_pay3]
  simp only [shapeCast_self]
  rfl
/-- A dequantised row times a dequantised row of the weight. -/
theorem pay4_apply (x : Vec Ideal S6144x5120 .bf16) (i : Vec Ideal S6144x5120 .f32) (s : Vec Ideal S6144x5120 .bf16) (W : Vec Ideal S2112x5120 .fp8e4m3) (ws : Vec Ideal S2112x5120 .bf16)
    (R : Fin 6144) (o : Fin 2112) :
    k0_pay4 x i s W ws (ix2 R o) = Spec.dot (fun j => k0_pay3 x i (ix2 R j) * s (ix2 R j)) (fun j => W (ix2 o j) * ws (ix2 o j)) := by
  have e := Ideal.matmul_transposedRhs_apply (M := 6144) (K := 5120) (N := 2112) (φ₁ := .bf16) (φ₂ := .bf16) none
    (mulf (extf .bf16 (k0_pay3 x i) bitsLt_fp8e4m3_bf16) s) (mulf (extf .bf16 W bitsLt_fp8e4m3_bf16) ws) (constant S6144x2112 .f32 0x00000000#32) R o
  rw [k0_pay4]
  simp only [shapeCast_self]
  refine Eq.trans (b := _) ?_ (e.trans ?_)
  · rfl
  · show Ideal.ofBits .f32 0x00000000#32 + _ = _
    rw [Ideal.ofBits_zero_f32, zero_add]
    rfl

end Cert.ReferenceIdeal.Hand
-- ==== Proof.ReferenceIdeal.Rows.lean ====
/- The reference kernel's operations at its operands, row by row. -/
module

public import proofs.«01_k».proof.Proof.Gen.ReferenceIdeal.Value
public import proofs.«01_k».proof.Proof.ReferenceIdeal.Values
public import proofs.«01_k».proof.Proof.KernelIdeal.Proj2

@[expose] public section

set_option maxRecDepth 10000

noncomputable section

namespace Cert.ReferenceIdeal.Hand

open Cert.ReferenceIdeal Cert.ReferenceIdeal.Gen Cert.ReferenceIdeal.Facts Cert.ReferenceIdeal.Value
open Idealize.ShloMosaic Idealize.ShloMosaic.TcCoe Idealize.ShloMosaic.ValueIdx Idealize.SL.Sem
open Idealize.ShloMosaic.Pipeline (Dat)
open Cert.KernelIdeal.Hand (qPart cPart kPart qRes cRes)

variable (m : (ℓ : Loc nD τ sig) → Buf (Elt Ideal) ℓ) (ρ : Dev nD → PrngReg)

/-- Row `R` of the input, the weight's rows, its blocks' scales, the two gains. -/
def xRow (c : Dev nD) (R : Fin 6144) (j : Fin 5120) : EReal := rowsV (A0 m c) (ix2 R j)
def wMat (c : Dev nD) (o : Fin 2112) (j : Fin 5120) : EReal := (V m c main_arg1 : S2112x5120.Idx → EReal) (ix2 o j)
def sMat (c : Dev nD) (b : Fin 17) (g : Fin 40) : EReal := A2 m c (ix2 b g)
def qGain (c : Dev nD) (o : Fin 1536) : EReal := (V m c main_v36 : S1x1536.Idx → EReal) (ix2 (0 : Fin 1) o)
def cGain (c : Dev nD) (o : Fin 512) : EReal := (V m c main_v37 : S1x512.Idx → EReal) (ix2 (0 : Fin 1) o)
/-- The projection of row `R`. -/
def yRow (c : Dev nD) (R : Fin 6144) (o : Fin 2112) : EReal :=
  Spec.dot (Spec.deq Scalar.rInv Scalar.rScale (xRow m c R)) (Spec.wdeq (wMat m c) (sMat m c) o)

/-! ## The kernel's operations at its operands -/

theorem code_row (c : Dev nD) (R : Fin 6144) (j : Fin 5120) : k0_pay3 (V m c main_v0) (V m c main_v26) (ix2 R j) = Spec.code Scalar.rInv (xRow m c R) j := by
  have ext : ∀ (y : FVec Ideal S6144x5120 .bf16) (i : S6144x5120.Idx), extf .f32 y bitsLt_bf16_f32 i = y i := fun _ _ => rfl
  rw [pay3_apply, V_v0, V_v26, ext, fullV_apply, invV_apply, amaxV_apply]
  rfl
theorem y_row (c : Dev nD) (R : Fin 6144) (o : Fin 2112) :
    k0_pay4 (V m c main_v0) (V m c main_v26) (V m c main_v29) (V m c main_arg1) (V m c main_v35) (ix2 R o) = yRow m c R o := by
  rw [pay4_apply]
  refine congrArg₂ Spec.dot (funext fun j => ?_) (funext fun j => ?_)
  · rw [code_row, V_v29, fullV_apply, scaleV_apply, amaxV_apply]
    rfl
  · rw [V_v35, wscaleV_apply]
    rfl

/-- The sum of the squares of a row's query part, and of its compressed part. -/
theorem sq_q (z : FVec Ideal S6144x2112 .f32) (i : S6144.Idx) :
    multiReduction .add [1] S6144 (mulf (extractStridedSlice S6144x1536 ![0, 0] z slices_S6144x2112_o0_0_S6144x1536) (extractStridedSlice S6144x1536 ![0, 0] z slices_S6144x2112_o0_0_S6144x1536))
        0x00000000#32 reduces_S6144x1536_S6144 (.inl rfl) rfl i
      = ∑ o : Fin 1536, qPart (fun o => z (ix2 (i 0) o)) o * qPart (fun o => z (ix2 (i 0) o)) o := by
  refine (Ideal.multiReduction_add_single _ _ _ _ _ _).trans (Finset.sum_congr rfl fun k _ => ?_)
  have e : extractStridedSlice S6144x1536 ![0, 0] z slices_S6144x2112_o0_0_S6144x1536 (reduces_S6144x1536_S6144.lift i k) = qPart (fun o => z (ix2 (i 0) o)) k := by
    refine extractStridedSlice_apply _ _ _ _ _ fun a => ?_
    match a with
    | ⟨0, _⟩ => exact (Nat.zero_add _).symm
    | ⟨1, _⟩ => exact (Nat.zero_add _).symm
  exact congrArg₂ (fun a b : EReal => a * b) e e
theorem sq_c (z : FVec Ideal S6144x2112 .f32) (i : S6144.Idx) :
    multiReduction .add [1] S6144 (mulf (extractStridedSlice S6144x512 ![0, 1536] z slices_S6144x2112_o0_1536_S6144x512) (extractStridedSlice S6144x512 ![0, 1536] z slices_S6144x2112_o0_1536_S6144x512))
        0x00000000#32 reduces_S6144x512_S6144 (.inl rfl) rfl i
      = ∑ o : Fin 512, cPart (fun o => z (ix2 (i 0) o)) o * cPart (fun o => z (ix2 (i 0) o)) o := by
  refine (Ideal.multiReduction_add_single _ _ _ _ _ _).trans (Finset.sum_congr rfl fun k _ => ?_)
  have e : extractStridedSlice S6144x512 ![0, 1536] z slices_S6144x2112_o0_1536_S6144x512 (reduces_S6144x512_S6144.lift i k) = cPart (fun o => z (ix2 (i 0) o)) k := by
    refine extractStridedSlice_apply _ _ _ _ _ fun a => ?_
    match a with
    | ⟨0, _⟩ => exact (Nat.zero_add _).symm
    | ⟨1, _⟩ => rfl
  exact congrArg₂ (fun a b : EReal => a * b) e e

section
variable (P0 : Vec Ideal S6144x5120 .bf16) (P1 : Vec Ideal S6144x5120 .f32) (P2 : Vec Ideal S6144x5120 .bf16) (P3 : Vec Ideal S2112x5120 .fp8e4m3) (P4 : Vec Ideal S2112x5120 .bf16)

theorem e7_apply (P5 : Vec Ideal S1x1536 .bf16) (R : Fin 6144) (p : Fin 1536) :
    E7 P0 P1 P2 P3 P4 P5 (ix2 R p) = qRes (fun o => k0_pay4 P0 P1 P2 P3 P4 (ix2 R o)) (fun o => P5 (ix2 (0 : Fin 1) o)) p := by
  have i0 : ix7_0 (ix2 R p) = ix2 R ⟨p.val, by omega⟩ := funext fun a => match a with
    | ⟨0, _⟩ => rfl
    | ⟨1, _⟩ => rfl
  have i2 : ix7_2 (ix2 R p) = ix2 (0 : Fin 1) p := funext fun a => match a with
    | ⟨0, _⟩ => rfl
    | ⟨1, _⟩ => rfl
  unfold E7
  rw [sq_q, i0, i2]
  rfl
theorem e8_apply (P5 : Vec Ideal S1x512 .bf16) (R : Fin 6144) (p : Fin 512) :
    E8 P0 P1 P2 P3 P4 P5 (ix2 R p) = cRes (fun o => k0_pay4 P0 P1 P2 P3 P4 (ix2 R o)) (fun o => P5 (ix2 (0 : Fin 1) o)) p := by
  have i0 : ix8_0 (ix2 R p) = ix2 R ⟨1536 + p.val, by omega⟩ := funext fun a => match a with
    | ⟨0, _⟩ => rfl
    | ⟨1, _⟩ => Fin.ext (show p.val + 1536 = 1536 + p.val by omega)
  have i2 : ix8_2 (ix2 R p) = ix2 (0 : Fin 1) p := funext fun a => match a with
    | ⟨0, _⟩ => rfl
    | ⟨1, _⟩ => rfl
  unfold E8
  rw [sq_c, i0, i2]
  rfl
theorem e9_apply (R : Fin 6144) (p : Fin 64) :
    E9 P0 P1 P2 P3 P4 (ix2 R p) = kPart (fun o => k0_pay4 P0 P1 P2 P3 P4 (ix2 R o)) p := by
  have i0 : ix9_0 (ix2 R p) = ix2 R ⟨2048 + p.val, by omega⟩ := funext fun a => match a with
    | ⟨0, _⟩ => rfl
    | ⟨1, _⟩ => Fin.ext (show p.val + 2048 = 2048 + p.val by omega)
  unfold E9
  rw [i0]
  rfl
end

end Cert.ReferenceIdeal.Hand
-- ==== Proof.ReferenceIdeal.Final.lean ====
/- The reference's five results after its run, index by index. -/
module

public import proofs.«01_k».proof.Proof.ReferenceIdeal.Rows
public import Idealize.ShloMosaic.Lib.Pipeline.ValueKit.Basic
public import Idealize.ShloMosaic.Lib.Pipeline.ValueKit.Geometry

@[expose] public section

set_option maxRecDepth 10000

noncomputable section

namespace Cert.ReferenceIdeal.Hand

open Cert.ReferenceIdeal Cert.ReferenceIdeal.Gen Cert.ReferenceIdeal.Facts Cert.ReferenceIdeal.Value
open Idealize.ShloMosaic Idealize.ShloMosaic.TcCoe Idealize.ShloMosaic.ValueIdx Idealize.SL.Sem
open Idealize.ShloMosaic.Pipeline (Dat)
open Cert.KernelIdeal.Hand (qPart cPart kPart qRes cRes)

variable (m : (ℓ : Loc nD τ sig) → Buf (Elt Ideal) ℓ) (ρ : Dev nD → PrngReg)

/-! ## The blocks are the arrays -/

/-- The one grid point. -/
abbrev t0 : Fin cfg0.N := ⟨0, Nat.one_pos⟩

theorem idx0 : ∀ a : Fin 2, (cfg0.win 0).index t0 a = 0 := by decide +kernel
theorem idx1 : ∀ a : Fin 2, (cfg0.win 1).index t0 a = 0 := by decide +kernel
theorem idx2 : ∀ a : Fin 2, (cfg0.win 2).index t0 a = 0 := by decide +kernel
theorem idx3 : ∀ a : Fin 2, (cfg0.win 3).index t0 a = 0 := by decide +kernel
theorem idx4 : ∀ a : Fin 2, (cfg0.win 4).index t0 a = 0 := by decide +kernel
theorem idx5 : ∀ a : Fin 2, (cfg0.win 5).index t0 a = 0 := by decide +kernel
theorem idx6 : ∀ a : Fin 2, (cfg0.win 6).index t0 a = 0 := by decide +kernel
theorem blk0_read (f : S6144x5120.Idx → Elt Ideal .bf16) : ((cfg0.win 0).blk t0).view.read (Elt Ideal) f = f := by
  funext y
  refine congrArg f (funext fun a => Fin.ext ?_)
  refine ((cfg0.win 0).rect_emb_val t0 y a).trans ?_
  rw [idx0 a, Nat.zero_mul]
  exact Nat.zero_add _
theorem iblk0_eq (c : Dev nD) : iblk m c 0 t0 = V m c main_v0 := blk0_read (V m c main_v0)
theorem blk1_read (f : S6144x5120.Idx → Elt Ideal .f32) : ((cfg0.win 1).blk t0).view.read (Elt Ideal) f = f := by
  funext y
  refine congrArg f (funext fun a => Fin.ext ?_)
  refine ((cfg0.win 1).rect_emb_val t0 y a).trans ?_
  rw [idx1 a, Nat.zero_mul]
  exact Nat.zero_add _
theorem iblk1_eq (c : Dev nD) : iblk m c 1 t0 = V m c main_v26 := blk1_read (V m c main_v26)
theorem blk2_read (f : S6144x5120.Idx → Elt Ideal .bf16) : ((cfg0.win 2).blk t0).view.read (Elt Ideal) f = f := by
  funext y
  refine congrArg f (funext fun a => Fin.ext ?_)
  refine ((cfg0.win 2).rect_emb_val t0 y a).trans ?_
  rw [idx2 a, Nat.zero_mul]
  exact Nat.zero_add _
theorem iblk2_eq (c : Dev nD) : iblk m c 2 t0 = V m c main_v29 := blk2_read (V m c main_v29)
theorem blk3_read (f : S2112x5120.Idx → Elt Ideal .fp8e4m3) : ((cfg0.win 3).blk t0).view.read (Elt Ideal) f = f := by
  funext y
  refine congrArg f (funext fun a => Fin.ext ?_)
  refine ((cfg0.win 3).rect_emb_val t0 y a).trans ?_
  rw [idx3 a, Nat.zero_mul]
  exact Nat.zero_add _
theorem iblk3_eq (c : Dev nD) : iblk m c 3 t0 = V m c main_arg1 := blk3_read (V m c main_arg1)
theorem blk4_read (f : S2112x5120.Idx → Elt Ideal .bf16) : ((cfg0.win 4).blk t0).view.read (Elt Ideal) f = f := by
  funext y
  refine congrArg f (funext fun a => Fin.ext ?_)
  refine ((cfg0.win 4).rect_emb_val t0 y a).trans ?_
  rw [idx4 a, Nat.zero_mul]
  exact Nat.zero_add _
theorem iblk4_eq (c : Dev nD) : iblk m c 4 t0 = V m c main_v35 := blk4_read (V m c main_v35)
theorem blk5_read (f : S1x1536.Idx → Elt Ideal .bf16) : ((cfg0.win 5).blk t0).view.read (Elt Ideal) f = f := by
  funext y
  refine congrArg f (funext fun a => Fin.ext ?_)
  refine ((cfg0.win 5).rect_emb_val t0 y a).trans ?_
  rw [idx5 a, Nat.zero_mul]
  exact Nat.zero_add _
theorem iblk5_eq (c : Dev nD) : iblk m c 5 t0 = V m c main_v36 := blk5_read (V m c main_v36)
theorem blk6_read (f : S1x512.Idx → Elt Ideal .bf16) : ((cfg0.win 6).blk t0).view.read (Elt Ideal) f = f := by
  funext y
  refine congrArg f (funext fun a => Fin.ext ?_)
  refine ((cfg0.win 6).rect_emb_val t0 y a).trans ?_
  rw [idx6 a, Nat.zero_mul]
  exact Nat.zero_add _
theorem iblk6_eq (c : Dev nD) : iblk m c 6 t0 = V m c main_v37 := blk6_read (V m c main_v37)

theorem off0 : ∀ a : Fin 2, (![0, 0] : Fin 2 → ℕ) a = 0 := by decide
theorem ld0 {e : EltTy} (X : S6144x5120.Idx → Elt Ideal e) : View.ld X r0_0 = X := View.ld_unit_lit _ X off0
theorem ld1 {e : EltTy} (X : S2112x5120.Idx → Elt Ideal e) : View.ld X r0_1 = X := View.ld_unit_lit _ X off0
theorem ld2 {e : EltTy} (X : S1x1536.Idx → Elt Ideal e) : View.ld X r0_2 = X := View.ld_unit_lit _ X off0
theorem ld4 {e : EltTy} (X : S1x512.Idx → Elt Ideal e) : View.ld X r0_4 = X := View.ld_unit_lit _ X off0

/-! ## The results -/

/-- The five results. -/
def outQ (c : Dev nD) : S6144x1536.Idx → EReal := fun i => qRes (yRow m c (i 0)) (qGain m c) (i 1)
def outC (c : Dev nD) : S6144x512.Idx → EReal := fun i => cRes (yRow m c (i 0)) (cGain m c) (i 1)
def outK (c : Dev nD) : S6144x64.Idx → EReal := fun i => kPart (yRow m c (i 0)) (i 1)
def outCodes (c : Dev nD) : S6144x5120.Idx → EReal := fun i => Spec.code Scalar.rInv (xRow m c (i 0)) (i 1)
@[irreducible] def scRow (c : Dev nD) (R : Fin 6144) (g : Fin 40) : EReal := Scalar.rScale (Spec.amax (Spec.grp (xRow m c R) g))
theorem scRow_eq (c : Dev nD) (R : Fin 6144) (g : Fin 40) : scRow m c R g = Scalar.rScale (Spec.amax (Spec.grp (xRow m c R) g)) := by unfold scRow; rfl
def outScales (c : Dev nD) : S6144x40.Idx → EReal := fun i => scRow m c (i 0) (i 1)

theorem exists_ix2 {a b : ℕ} (y : (⟨2, ![a, b]⟩ : Shape).Idx) : ∃ (r : Fin a) (p : Fin b), y = ix2 r p := ⟨y 0, y 1, eq_ix2 y⟩
theorem after7 (c : Dev nD) (y : S6144x1536.Idx) : (dats m 0 c).after 7 t0 y = outQ m c y := by
  rw [after0_7, iblk0_eq, iblk1_eq, iblk2_eq, iblk3_eq, iblk4_eq, iblk5_eq, iblk6_eq]
  unfold out0_7
  simp only [ld0, ld1, ld2, ld4]
  rw [canon7_eq]
  obtain ⟨r, p, rfl⟩ := exists_ix2 y
  refine (e7_apply (V m c main_v0) (V m c main_v26) (V m c main_v29) (V m c main_arg1) (V m c main_v35) (V m c main_v36) r p).trans ?_
  exact congrArg (fun z => qRes z (qGain m c) p) (a₁ := fun o => k0_pay4 (V m c main_v0) (V m c main_v26) (V m c main_v29) (V m c main_arg1) (V m c main_v35) (ix2 r o)) (a₂ := yRow m c r) (funext fun o => y_row m c r o)
theorem arr7 (c : Dev nD) : (dats m 0 c).arrAt 7 cfg0.N = outQ m c :=
  (dats m 0 c).arrAt_eq_of_after_last (7 : Fin cfg0.W) t0 (by decide +kernel) _ fun j => after7 m c j
theorem after8 (c : Dev nD) (y : S6144x512.Idx) : (dats m 0 c).after 8 t0 y = outC m c y := by
  rw [after0_8, iblk0_eq, iblk1_eq, iblk2_eq, iblk3_eq, iblk4_eq, iblk5_eq, iblk6_eq]
  unfold out0_8 k0_pay6
  simp only [ld0, ld1, ld2, ld4]
  rw [canon8_eq]
  obtain ⟨r, p, rfl⟩ := exists_ix2 y
  refine (e8_apply (V m c main_v0) (V m c main_v26) (V m c main_v29) (V m c main_arg1) (V m c main_v35) (V m c main_v37) r p).trans ?_
  exact congrArg (fun z => cRes z (cGain m c) p) (a₁ := fun o => k0_pay4 (V m c main_v0) (V m c main_v26) (V m c main_v29) (V m c main_arg1) (V m c main_v35) (ix2 r o)) (a₂ := yRow m c r) (funext fun o => y_row m c r o)
theorem arr8 (c : Dev nD) : (dats m 0 c).arrAt 8 cfg0.N = outC m c :=
  (dats m 0 c).arrAt_eq_of_after_last (8 : Fin cfg0.W) t0 (by decide +kernel) _ fun j => after8 m c j
theorem after9 (c : Dev nD) (y : S6144x64.Idx) : (dats m 0 c).after 9 t0 y = outK m c y := by
  rw [after0_9, iblk0_eq, iblk1_eq, iblk2_eq, iblk3_eq, iblk4_eq, iblk5_eq, iblk6_eq]
  unfold out0_9 k0_pay6
  simp only [ld0, ld1, ld2, ld4]
  rw [canon9_eq]
  obtain ⟨r, p, rfl⟩ := exists_ix2 y
  refine (e9_apply (V m c main_v0) (V m c main_v26) (V m c main_v29) (V m c main_arg1) (V m c main_v35) r p).trans ?_
  exact congrArg (fun z => kPart z p) (a₁ := fun o => k0_pay4 (V m c main_v0) (V m c main_v26) (V m c main_v29) (V m c main_arg1) (V m c main_v35) (ix2 r o)) (a₂ := yRow m c r) (funext fun o => y_row m c r o)
theorem arr9 (c : Dev nD) : (dats m 0 c).arrAt 9 cfg0.N = outK m c :=
  (dats m 0 c).arrAt_eq_of_after_last (9 : Fin cfg0.W) t0 (by decide +kernel) _ fun j => after9 m c j
theorem after10 (c : Dev nD) (y : S6144x5120.Idx) : (dats m 0 c).after 10 t0 y = outCodes m c y := by
  rw [after0_10, iblk0_eq, iblk1_eq]
  unfold out0_10
  simp only [ld0, ld1, ld2, ld4]
  obtain ⟨r, p, rfl⟩ := exists_ix2 y
  refine (congrFun (View.canon_cons_unit_lit _ _ _ off0) _).trans ?_
  exact code_row m c r p
theorem arr10 (c : Dev nD) : (dats m 0 c).arrAt 10 cfg0.N = outCodes m c :=
  (dats m 0 c).arrAt_eq_of_after_last (10 : Fin cfg0.W) t0 (by decide +kernel) _ fun j => after10 m c j
/-- The scales are the host's. -/
theorem scales (c : Dev nD) : V m c main_v19 = outScales m c := by
  funext y
  obtain ⟨r, p, rfl⟩ := exists_ix2 y
  rw [V_v19, scaleV_apply, amaxV_apply]
  exact (scRow_eq m c r p).symm

/-- The run leaves the five results named above, and the arguments as they began. -/
theorem run_values : θ_run defs (onTc (τ := τ) (main (F := Ideal))) (s₀ m ρ) (fun r => ∀ c : Dev nD,
      r.2.mem ((c.tc : Thread nD τ).loc main_v38_0) = outQ m c
      ∧ r.2.mem ((c.tc : Thread nD τ).loc main_v38_1) = outC m c
      ∧ r.2.mem ((c.tc : Thread nD τ).loc main_v38_2) = outK m c
      ∧ r.2.mem ((c.tc : Thread nD τ).loc main_v38_3) = outCodes m c
      ∧ r.2.mem ((c.tc : Thread nD τ).loc main_v19) = outScales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(post7 m r h c).trans (arr7 m c), (post8 m r h c).trans (arr8 m c), (post9 m r h c).trans (arr9 m c),
    (post10 m r h c).trans (arr10 m c), ((h c).2 main_v19 (Pipeline.mem_restRefs_of main_v19 (by decide) (by decide))).trans (scales m c),
    kept_main_arg0 m r h c, kept_main_arg1 m r h c, kept_main_arg2 m r h c, kept_main_arg3 m r h c, kept_main_arg4 m r h c⟩) (run_main m ρ)

end Cert.ReferenceIdeal.Hand
-- ==== Proof.Algebra.lean ====
/- The kernel's results are the reference's, when every group's absolute maximum is in range. -/
module

public import proofs.«01_k».proof.Defs
public import proofs.«01_k».proof.Proof.KernelIdeal.Host
public import proofs.«01_k».proof.Proof.KernelIdeal.Final
public import proofs.«01_k».proof.Proof.ReferenceIdeal.Final
public import proofs.«01_k».proof.Proof.Gen.Pre_scales_representable

@[expose] public section

set_option maxRecDepth 10000

noncomputable section

namespace Cert.Algebra

open Idealize.ShloMosaic Idealize.ShloMosaic.TcCoe Idealize.ShloMosaic.ValueIdx Idealize.SL.Sem

/-! ## The precondition -/

/-- The test the precondition makes of one group's absolute maximum. -/
def okBit (a : Ideal .f32) : BitVec 1 :=
  IntOp.ori (FloatOps.cmpf .oeq a (FloatOps.ofBits .f32 0x00000000#32 : Ideal .f32))
    (IntOp.andi (FloatOps.cmpf .oge a (FloatOps.ofBits .f32 0x04E00000#32 : Ideal .f32)) (FloatOps.cmpf .ole a (FloatOps.ofBits .f32 0x7F7F0000#32 : Ideal .f32)))

theorem ok_of_bits : ∀ p q r : Bool, IntOp.ori (BitVec.ofBool p) (IntOp.andi (BitVec.ofBool q) (BitVec.ofBool r)) = 1#1 → p = true ∨ (q = true ∧ r = true) := by decide

/-- An absolute maximum that passes the test is zero or within the two bounds. -/
theorem ok_of_okBit (a : Ideal .f32) (h : okBit a = 1#1) : Scalar.Ok a := by
  rcases ok_of_bits (decide ((a : EReal) = Ideal.ofBits .f32 0x00000000#32)) (decide (Ideal.ofBits .f32 0x04E00000#32 ≤ (a : EReal))) (decide ((a : EReal) ≤ Ideal.ofBits .f32 0x7F7F0000#32)) h with h1 | ⟨h2, h3⟩
  · exact .inl ((of_decide_eq_true h1).trans Ideal.ofBits_zero_f32)
  · exact .inr ⟨of_decide_eq_true h2, of_decide_eq_true h3⟩

/-- The precondition's last operations, at one group. -/
theorem test_apply (A : FVec Ideal Cert.Pre_scales_representable.S6144x40 .f32) (h : Cert.Pre_scales_representable.S_.BroadcastsInDim Cert.Pre_scales_representable.S6144x40 (![] : Fin 0 → Fin Cert.Pre_scales_representable.S6144x40.rank)) (i : Cert.Pre_scales_representable.S6144x40.Idx) :
    ori (cmpf .oeq A (broadcastInDim Cert.Pre_scales_representable.S6144x40 ![] h (constant Cert.Pre_scales_representable.S_ .f32 0x00000000#32)))
      (andi (cmpf .oge A (broadcastInDim Cert.Pre_scales_representable.S6144x40 ![] h (constant Cert.Pre_scales_representable.S_ .f32 0x04E00000#32)))
        (cmpf .ole A (broadcastInDim Cert.Pre_scales_representable.S6144x40 ![] h (constant Cert.Pre_scales_representable.S_ .f32 0x7F7F0000#32)))) i = okBit (A i) := rfl

/-- The precondition, at one group of one row. -/
theorem fn_apply (a0 : FVec Ideal Cert.Pre_scales_representable.S1x6144x5120 .bf16) (a1 : FVec Ideal Cert.Pre_scales_representable.S2112x5120 .fp8e4m3)
    (a2 : FVec Ideal Cert.Pre_scales_representable.S17x40 .f32) (a3 : FVec Ideal Cert.Pre_scales_representable.S1536 .bf16) (a4 : FVec Ideal Cert.Pre_scales_representable.S512 .bf16) (R : Fin 6144) (g : Fin 40) :
    Cert.Pre_scales_representable.fn (F := Ideal) a0 a1 a2 a3 a4 (ix2 R g)
      = okBit (Spec.amax (Spec.grp (fun j => shapeCast Cert.Pre_scales_representable.S6144x5120 a0 Cert.Pre_scales_representable.Facts.shapeCasts_S1x6144x5120_S6144x5120 (ix2 R j)) g)) := by
  unfold Cert.Pre_scales_representable.fn
  refine (test_apply _ _ _).trans ?_
  exact congrArg okBit (Cert.ReferenceIdeal.Hand.amax_apply _ _ _ _ _ R g)

variable (m : (ℓ : Loc Cert.KernelIdeal.nD Cert.KernelIdeal.τ Cert.KernelIdeal.sig) → Buf (Elt Ideal) ℓ)

/-- Under the precondition every row's groups are in range. -/
theorem rowOk (hp : Cert.Pre_KernelIdeal_scales_representable m) (c : Dev Cert.KernelIdeal.nD) (R : Fin 6144) :
    Spec.RowOk (Cert.KernelIdeal.Hand.xRow m c R) := fun g => by
  have h := (fn_apply _ _ _ _ _ R g).symm.trans (congrFun (hp c) (ix2 R g))
  have e : Cert.KernelIdeal.Hand.xRow m c R = fun j => shapeCast Cert.Pre_scales_representable.S6144x5120 (m ((c.tc : Thread Cert.KernelIdeal.nD Cert.KernelIdeal.τ).loc Cert.KernelIdeal.main_arg0)) Cert.Pre_scales_representable.Facts.shapeCasts_S1x6144x5120_S6144x5120 (ix2 R j) :=
    funext fun j => congrFun (Cert.KernelIdeal.Hand.V_main_v2 m c) (ix2 R j)
  rw [e]
  exact ok_of_okBit _ h

/-! ## The two programs at equal arguments -/

variable (m' : (ℓ : Loc Cert.ReferenceIdeal.nD Cert.ReferenceIdeal.τ Cert.ReferenceIdeal.sig) → Buf (Elt Ideal) ℓ)

/-- Device `c`'s arguments are equal in the two memories. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

section
variable {m m'} {c : Dev Cert.KernelIdeal.nD} (h : Agree m m' c)
include h

theorem xRow_eq (R : Fin 6144) : Cert.ReferenceIdeal.Hand.xRow m' c R = Cert.KernelIdeal.Hand.xRow m c R := funext fun j =>
  (congrArg (fun a : FVec Ideal Cert.ReferenceIdeal.S1x6144x5120 .bf16 => Cert.ReferenceIdeal.Hand.rowsV a (ix2 R j)) h.1).trans
    (congrFun (Cert.KernelIdeal.Hand.V_main_v2 m c) (ix2 R j)).symm
theorem wMat_eq : Cert.ReferenceIdeal.Hand.wMat m' c = Cert.KernelIdeal.Hand.wMat m c := funext fun o => funext fun j =>
  (congrFun (Cert.ReferenceIdeal.Gen.V_main_arg1 m' c) (ix2 o j)).trans
    ((congrFun h.2.1 (ix2 o j)).trans (congrFun (Cert.KernelIdeal.Gen.V_main_arg1 m c) (ix2 o j)).symm)
theorem sMat_eq : Cert.ReferenceIdeal.Hand.sMat m' c = Cert.KernelIdeal.Hand.sMat m c := funext fun b => funext fun g =>
  (congrFun h.2.2.1 (ix2 b g)).trans (congrFun (Cert.KernelIdeal.Gen.V_main_arg2 m c) (ix2 b g)).symm
theorem qGain_eq : Cert.ReferenceIdeal.Hand.qGain m' c = Cert.KernelIdeal.Hand.qGain m c := funext fun o =>
  (congrFun (Cert.ReferenceIdeal.Hand.V_v36 m' c) (ix2 (0 : Fin 1) o)).trans
    ((congrArg (fun a : FVec Ideal Cert.ReferenceIdeal.S1536 .bf16 => shapeCast Cert.ReferenceIdeal.S1x1536 a Cert.ReferenceIdeal.Gen.shapeCasts_S1536_S1x1536 (ix2 (0 : Fin 1) o)) h.2.2.2.1).trans
      (congrFun (Cert.KernelIdeal.Hand.V_main_v0 m c) (ix2 (0 : Fin 1) o)).symm)
theorem cGain_eq : Cert.ReferenceIdeal.Hand.cGain m' c = Cert.KernelIdeal.Hand.cGain m c := funext fun o =>
  (congrFun (Cert.ReferenceIdeal.Hand.V_v37 m' c) (ix2 (0 : Fin 1) o)).trans
    ((congrArg (fun a : FVec Ideal Cert.ReferenceIdeal.S512 .bf16 => shapeCast Cert.ReferenceIdeal.S1x512 a Cert.ReferenceIdeal.Gen.shapeCasts_S512_S1x512 (ix2 (0 : Fin 1) o)) h.2.2.2.2).trans
      (congrFun (Cert.KernelIdeal.Hand.V_main_v1 m c) (ix2 (0 : Fin 1) o)).symm)

variable (hp : Cert.Pre_KernelIdeal_scales_representable m)
include hp

/-- The projections of a row are equal. -/
theorem yRow_eq (R : Fin 6144) : Cert.ReferenceIdeal.Hand.yRow m' c R = Cert.KernelIdeal.Hand.yRow m c R := funext fun o => by
  unfold Cert.ReferenceIdeal.Hand.yRow Cert.KernelIdeal.Hand.yRow
  rw [xRow_eq h, wMat_eq h, sMat_eq h, Spec.deq_eq _ (rowOk m hp c R)]

/-- The codes of a row, and the scale of a group, are equal. -/
theorem codeRow_eq (R : Fin 6144) : Spec.code Scalar.rInv (Cert.ReferenceIdeal.Hand.xRow m' c R) = Spec.code Spec.kI (Cert.KernelIdeal.Hand.xRow m c R) := by
  rw [xRow_eq h, Spec.code_eq _ (rowOk m hp c R)]
theorem scRow_eq (R : Fin 6144) (g : Fin 40) : Cert.ReferenceIdeal.Hand.scRow m' c R g = Cert.KernelIdeal.Hand.scRow m c R g := by
  rw [Cert.ReferenceIdeal.Hand.scRow_eq, Cert.KernelIdeal.Hand.scRow_eq, xRow_eq h, Spec.kS_eq _ (rowOk m hp c R)]

/-- Each of the five results is equal. -/
theorem outQ_eq : Cert.ReferenceIdeal.Hand.outQ m' c = Cert.KernelIdeal.Hand.outQ m c := funext fun i =>
  congrArg₂ (fun y w => Cert.KernelIdeal.Hand.qRes y w (i 1)) (yRow_eq h hp (i 0)) (qGain_eq h)
theorem outC_eq : Cert.ReferenceIdeal.Hand.outC m' c = Cert.KernelIdeal.Hand.outC m c := funext fun i =>
  congrArg₂ (fun y w => Cert.KernelIdeal.Hand.cRes y w (i 1)) (yRow_eq h hp (i 0)) (cGain_eq h)
theorem outK_eq : Cert.ReferenceIdeal.Hand.outK m' c = Cert.KernelIdeal.Hand.outK m c := funext fun i =>
  congrArg (fun y => Cert.KernelIdeal.Hand.kPart y (i 1)) (yRow_eq h hp (i 0))
theorem outCodes_eq : Cert.ReferenceIdeal.Hand.outCodes m' c = Cert.KernelIdeal.Hand.outCodes m c := funext fun i => congrFun (codeRow_eq h hp (i 0)) (i 1)
theorem outScales_eq : Cert.ReferenceIdeal.Hand.outScales m' c = Cert.KernelIdeal.Hand.outScales m c := funext fun i => scRow_eq h hp (i 0) (i 1)

end

/-- From equal arguments whose groups' absolute maxima are in range, the kernel and the reference leave
    equal queries, compressed rows, rotary rows, codes and scales, and leave the arguments as they were. -/
theorem algebraic : Cert.algebraic_KernelIdeal_ReferenceIdeal_pre_scales_representable := fun m g m' g' hp ha =>
  ⟨Cert.KernelIdeal.Hand.outQ m, Cert.KernelIdeal.Hand.outC m, Cert.KernelIdeal.Hand.outK m, Cert.KernelIdeal.Hand.outCodes m, Cert.KernelIdeal.Hand.outScales m,
    Cert.KernelIdeal.Hand.run_values m g,
    (θ_run Cert.ReferenceIdeal.defs _ _).mono (fun _ hr c =>
      ⟨(hr c).1.trans (outQ_eq (ha c) hp), (hr c).2.1.trans (outC_eq (ha c) hp), (hr c).2.2.1.trans (outK_eq (ha c) hp),
        (hr c).2.2.2.1.trans (outCodes_eq (ha c) hp), (hr c).2.2.2.2.1.trans (outScales_eq (ha c) hp), (hr c).2.2.2.2.2⟩)
      (Cert.ReferenceIdeal.Hand.run_values m' g')⟩

end Cert.Algebra

end
-- ==== Proof.lean ====
module

public import proofs.«01_k».proof.Defs
public import proofs.«01_k».proof.Proof.Kernel.Frame
public import proofs.«01_k».proof.Proof.KernelIdeal.Frame
public import proofs.«01_k».proof.Proof.Gen.ReferenceIdeal.Frame
public import proofs.«01_k».proof.Proof.Gen.ReferenceIdeal.Value
public import proofs.«01_k».proof.Proof.Gen.Pre_scales_representable
public import proofs.«01_k».proof.Proof.Algebra

@[expose] public section

noncomputable section

namespace Cert.Proof

open Idealize.ShloMosaic Idealize.SL.Sem

/-- The two constants that the idealized kernel names are the reals `1 / log 2` and `1 / 1536`. -/
theorem preserves : Cert.preserves_Kernel_KernelIdeal :=
  ⟨IdealRules.named_const.statement Cert.KernelIdeal.κ "inv_ln2" .f32 0x3FB8AA3B#32 (((Real.log 2)⁻¹ : ℝ) : EReal) rfl,
    IdealRules.named_const.statement Cert.KernelIdeal.κ "inv_q" .f32 0x3A2AAAAB#32 ((1 / 1536 : ℝ) : EReal) rfl⟩

/-- The three programs run and keep their arguments, the kernel's idealization is the kernel but for the two named
    constants, and under the precondition its results are the reference's. -/
theorem claim : Cert.Claim :=
  ⟨Cert.Kernel.Gen.facts, Cert.KernelIdeal.Gen.facts, Cert.ReferenceIdeal.Gen.facts, Cert.Pre_scales_representable.Gen.facts,
    fun m g _ => Cert.Kernel.Hand.frame m g, fun m g _ => Cert.KernelIdeal.Hand.frame m g, fun m g _ => Cert.KernelIdeal.Hand.frame m g,
    fun m g _ => Cert.ReferenceIdeal.Gen.frame m g, fun m g _ => Cert.ReferenceIdeal.Gen.frame m g,
    preserves, Cert.Algebra.algebraic⟩

end Cert.Proof

end
